-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S8x16x2048 : Shape := ⟨3, ![8, 16, 2048]⟩
abbrev S4x16x2048 : Shape := ⟨3, ![4, 16, 2048]⟩
abbrev S3 : Shape := ⟨1, ![3]⟩
abbrev S4 : Shape := ⟨1, ![4]⟩
abbrev S_ : Shape := ⟨0, ![]⟩
abbrev S1 : Shape := ⟨1, ![1]⟩
abbrev S512x1024 : Shape := ⟨2, ![512, 1024]⟩
abbrev S512x128 : Shape := ⟨2, ![512, 128]⟩
abbrev S128x1024 : Shape := ⟨2, ![128, 1024]⟩
abbrev S8x16x1024 : Shape := ⟨3, ![8, 16, 1024]⟩
abbrev S1x16x2048 : Shape := ⟨3, ![1, 16, 2048]⟩
abbrev S16x2048 : Shape := ⟨2, ![16, 2048]⟩
abbrev S512x256 : Shape := ⟨2, ![512, 256]⟩
abbrev S64x2048 : Shape := ⟨2, ![64, 2048]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S8x16x2048, .bf16⟩
  | .local _ .vmem, ⟨4, _⟩ => ⟨S4x16x2048, .bf16⟩
  | .local _ .vmem, ⟨5, _⟩ => ⟨S4x16x2048, .bf16⟩
  | .local _ .vmem, ⟨6, _⟩ => ⟨S4x16x2048, .bf16⟩
  | .local _ .vmem, ⟨7, _⟩ => ⟨S4x16x2048, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 2 → Nat :=
  let c0 : Index := 0#32
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_38 v8
  let c256_i32 : BitVec 32 := 256#32
  let v54 : BitVec 32 := Scalar.muli v53 c256_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v55 : BitVec 32 := Scalar.muli v2 c128_i32
  let v56 : BitVec 32 := Scalar.addi v54 v55
  let v63 : Index := Scalar.indexCast v56
  ![0, v63.toNat]
def k0_off2 (d0 : Dev nD) (c0_i32_62 : BitVec 32) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4_i32_61 : BitVec 32 := 4#32
  let v85 : BitVec 32 := Scalar.muli v5 c4_i32_61
  let v86 : BitVec 32 := Scalar.addi v85 c0_i32_62
  let c0_i32_72 : BitVec 32 := 0#32
  let c0_i32_73 : BitVec 32 := 0#32
  ![v86.toNat, 0, 0]
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v87 : BitVec 32 := Scalar.muli v2 c4_i32_66
  let v88 : BitVec 32 := Scalar.addi c0_i32_67 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v89 : BitVec 32 := Scalar.muli v5 c2_i32_68
  let v90 : BitVec 32 := Scalar.addi v88 v89
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_69 : BitVec 32 := 1#32
  let v91 : BitVec 32 := Scalar.muli v9 c1_i32_69
  let v92 : BitVec 32 := Scalar.addi v90 v91
  v92.toNat
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v103 : BitVec 32 := Scalar.muli v2 c4_i32_79
  let v104 : BitVec 32 := Scalar.addi c0_i32_80 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v105 : BitVec 32 := Scalar.muli v5 c2_i32_81
  let v106 : BitVec 32 := Scalar.addi v104 v105
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v107 : BitVec 32 := Scalar.muli v9 c1_i32_82
  let v108 : BitVec 32 := Scalar.addi v106 v107
  v108.toNat
def k0_dev6 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v119 : BitVec 32 := Scalar.muli v2 c4_i32_92
  let v120 : BitVec 32 := Scalar.addi c0_i32_93 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v121 : BitVec 32 := Scalar.muli v5 c2_i32_94
  let v122 : BitVec 32 := Scalar.addi v120 v121
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v123 : BitVec 32 := Scalar.muli v9 c1_i32_95
  let v124 : BitVec 32 := Scalar.addi v122 v123
  v124.toNat
def k0_dev7 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v135 : BitVec 32 := Scalar.muli v2 c4_i32_105
  let v136 : BitVec 32 := Scalar.addi c0_i32_106 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v137 : BitVec 32 := Scalar.muli v5 c2_i32_107
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_108 : BitVec 32 := 1#32
  let v139 : BitVec 32 := Scalar.muli v9 c1_i32_108
  let v140 : BitVec 32 := Scalar.addi v138 v139
  v140.toNat
def k0_off3 (d0 : Dev nD) : Fin 2 → Nat :=
  let c0_114 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_113 : BitVec 32 := 256#32
  let v149 : BitVec 32 := Scalar.muli v8 c256_i32_113
  let v150 : Index := Scalar.indexCast v149
  ![0, v150.toNat]
def k0_dev8 (d0 : Dev nD) : Nat :=
  let c0_i32_136 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_135 : BitVec 32 := 4#32
  let v169 : BitVec 32 := Scalar.muli v10 c4_i32_135
  let v170 : BitVec 32 := Scalar.addi c0_i32_136 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v171 : BitVec 32 := Scalar.muli v5 c2_i32_137
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v173 : BitVec 32 := Scalar.muli v8 c1_i32_138
  let v174 : BitVec 32 := Scalar.addi v172 v173
  v174.toNat
def k0_dev9 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v183 : BitVec 32 := Scalar.muli v2 c4_i32_147
  let v184 : BitVec 32 := Scalar.addi c0_i32_148 v183
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_149 : BitVec 32 := 2#32
  let v185 : BitVec 32 := Scalar.muli v11 c2_i32_149
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v187 : BitVec 32 := Scalar.muli v8 c1_i32_150
  let v188 : BitVec 32 := Scalar.addi v186 v187
  v188.toNat
def k0_dev10 (d0 : Dev nD) : Nat :=
  let c0_i32_171 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_170 : BitVec 32 := 4#32
  let v209 : BitVec 32 := Scalar.muli v10 c4_i32_170
  let v210 : BitVec 32 := Scalar.addi c0_i32_171 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v211 : BitVec 32 := Scalar.muli v5 c2_i32_172
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v213 : BitVec 32 := Scalar.muli v8 c1_i32_173
  let v214 : BitVec 32 := Scalar.addi v212 v213
  v214.toNat
def k0_dev11 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v223 : BitVec 32 := Scalar.muli v2 c4_i32_182
  let v224 : BitVec 32 := Scalar.addi c0_i32_183 v223
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_184 : BitVec 32 := 2#32
  let v225 : BitVec 32 := Scalar.muli v11 c2_i32_184
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v227 : BitVec 32 := Scalar.muli v8 c1_i32_185
  let v228 : BitVec 32 := Scalar.addi v226 v227
  v228.toNat
def k0_dev12 (d0 : Dev nD) : Nat :=
  let c0_i32_206 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_205 : BitVec 32 := 4#32
  let v249 : BitVec 32 := Scalar.muli v10 c4_i32_205
  let v250 : BitVec 32 := Scalar.addi c0_i32_206 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v251 : BitVec 32 := Scalar.muli v5 c2_i32_207
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v253 : BitVec 32 := Scalar.muli v8 c1_i32_208
  let v254 : BitVec 32 := Scalar.addi v252 v253
  v254.toNat
def k0_dev13 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v263 : BitVec 32 := Scalar.muli v2 c4_i32_217
  let v264 : BitVec 32 := Scalar.addi c0_i32_218 v263
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_219 : BitVec 32 := 2#32
  let v265 : BitVec 32 := Scalar.muli v11 c2_i32_219
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v267 : BitVec 32 := Scalar.muli v8 c1_i32_220
  let v268 : BitVec 32 := Scalar.addi v266 v267
  v268.toNat
def k0_dev14 (d0 : Dev nD) : Nat :=
  let c0_i32_241 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_240 : BitVec 32 := 4#32
  let v289 : BitVec 32 := Scalar.muli v10 c4_i32_240
  let v290 : BitVec 32 := Scalar.addi c0_i32_241 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_242 : BitVec 32 := 2#32
  let v291 : BitVec 32 := Scalar.muli v5 c2_i32_242
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v293 : BitVec 32 := Scalar.muli v8 c1_i32_243
  let v294 : BitVec 32 := Scalar.addi v292 v293
  v294.toNat
def k0_dev15 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_252 : BitVec 32 := 4#32
  let v303 : BitVec 32 := Scalar.muli v2 c4_i32_252
  let v304 : BitVec 32 := Scalar.addi c0_i32_253 v303
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_254 : BitVec 32 := 2#32
  let v305 : BitVec 32 := Scalar.muli v11 c2_i32_254
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v307 : BitVec 32 := Scalar.muli v8 c1_i32_255
  let v308 : BitVec 32 := Scalar.addi v306 v307
  v308.toNat
def k0_off4 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c64_i32 : BitVec 32 := 64#32
  let v317 : BitVec 32 := Scalar.muli v13 c64_i32
  let v318 : Index := Scalar.indexCast v317
  let c0_260 : Index := 0#32
  ![v318.toNat, 0]
def k0_off5 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c64_i32_267 : BitVec 32 := 64#32
  let v330 : BitVec 32 := Scalar.muli v13 c64_i32_267
  let c0_i32_269 : BitVec 32 := 0#32
  ![v330.toNat, 0]
def k0_dev16 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v347 : BitVec 32 := Scalar.muli v2 c4_i32_287
  let v348 : BitVec 32 := Scalar.addi c0_i32_288 v347
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_289 : BitVec 32 := 2#32
  let v349 : BitVec 32 := Scalar.muli v11 c2_i32_289
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v351 : BitVec 32 := Scalar.muli v8 c1_i32_290
  let v352 : BitVec 32 := Scalar.addi v350 v351
  v352.toNat
def k0_dev17 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v373 : BitVec 32 := Scalar.muli v2 c4_i32_311
  let v374 : BitVec 32 := Scalar.addi c0_i32_312 v373
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_313 : BitVec 32 := 2#32
  let v375 : BitVec 32 := Scalar.muli v11 c2_i32_313
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v377 : BitVec 32 := Scalar.muli v8 c1_i32_314
  let v378 : BitVec 32 := Scalar.addi v376 v377
  v378.toNat
def k0_dev18 (d0 : Dev nD) : Nat :=
  let c0_i32_336 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_335 : BitVec 32 := 4#32
  let v399 : BitVec 32 := Scalar.muli v10 c4_i32_335
  let v400 : BitVec 32 := Scalar.addi c0_i32_336 v399
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v401 : BitVec 32 := Scalar.muli v5 c2_i32_337
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v403 : BitVec 32 := Scalar.muli v8 c1_i32_338
  let v404 : BitVec 32 := Scalar.addi v402 v403
  v404.toNat
def k0_dev19 (d0 : Dev nD) : Nat :=
  let c0_i32_360 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_359 : BitVec 32 := 4#32
  let v425 : BitVec 32 := Scalar.muli v10 c4_i32_359
  let v426 : BitVec 32 := Scalar.addi c0_i32_360 v425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v427 : BitVec 32 := Scalar.muli v5 c2_i32_361
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v429 : BitVec 32 := Scalar.muli v8 c1_i32_362
  let v430 : BitVec 32 := Scalar.addi v428 v429
  v430.toNat
def k0_off6 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c64_i32_391 : BitVec 32 := 64#32
  let v463 : BitVec 32 := Scalar.muli v16 c64_i32_391
  let v464 : Index := Scalar.indexCast v463
  let c0_392 : Index := 0#32
  ![v464.toNat, 0]
def k0_off7 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c64_i32_399 : BitVec 32 := 64#32
  let v476 : BitVec 32 := Scalar.muli v16 c64_i32_399
  let c0_i32_401 : BitVec 32 := 0#32
  ![v476.toNat, 0]
def k0_off8 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c64_i32_427 : BitVec 32 := 64#32
  let v505 : BitVec 32 := Scalar.muli v19 c64_i32_427
  let v506 : Index := Scalar.indexCast v505
  let c0_428 : Index := 0#32
  ![v506.toNat, 0]
def k0_off9 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c64_i32_435 : BitVec 32 := 64#32
  let v518 : BitVec 32 := Scalar.muli v19 c64_i32_435
  let c0_i32_437 : BitVec 32 := 0#32
  ![v518.toNat, 0]
def k0_off10 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c64_i32_487 : BitVec 32 := 64#32
  let v571 : BitVec 32 := Scalar.muli v23 c64_i32_487
  let v572 : Index := Scalar.indexCast v571
  let c0_488 : Index := 0#32
  ![v572.toNat, 0]
def k0_off11 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c64_i32_495 : BitVec 32 := 64#32
  let v584 : BitVec 32 := Scalar.muli v23 c64_i32_495
  let c0_i32_497 : BitVec 32 := 0#32
  ![v584.toNat, 0]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.ValueIdxCore
public import Idealize.ShloMosaic.Lib.Tactic

/-! The mesh of eight devices, the buffers and cells of the reduce-scatter kernel, what each buffer
    comes to hold, and the one round of communication each semaphore cell carries. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The rounds of the kernel's cells name the giver of a unit by one of three marks. -/
abbrev UB : Type := URounds (GSem nD τ sig) (Fin 3)
/-- The ghost state: the pipeline's rounds and the kernel's. -/
abbrev UU : Type := UR sig nD τ × UB

local notation "𝕄" => MT nD τ sig Unit (Elt F) ℕ UU ℕ

/-- Where the pipeline's rounds live. -/
abbrev EP : Emb (UR sig nD τ) (MT nD τ sig Unit (Elt F) ℕ UU ℕ) := embL
/-- Where the kernel's rounds live. -/
abbrev ER : Emb UB (MT nD τ sig Unit (Elt F) ℕ UU ℕ) := embR

/-! ## The mesh -/

/-- The device that differs from `c` in the last coordinate only. -/
def zp (c : Dev nD) : Dev nD :=
  ⟨4 * (c.val / 4) + 2 * ((c.val / 2) % 2) + 1 - c.val % 2, by have := c.isLt; revert this; generalize c.val = v; decide +revert⟩
/-- The device that differs from `c` in the first coordinate only. -/
def xp (c : Dev nD) : Dev nD :=
  ⟨2 * ((c.val / 2) % 2) + c.val % 2 + 4 - 4 * (c.val / 4), by have := c.isLt; revert this; generalize c.val = v; decide +revert⟩
/-- The device that differs from `c` in the middle coordinate only. -/
def yp (c : Dev nD) : Dev nD :=
  ⟨4 * (c.val / 4) + c.val % 2 + 2 - 2 * ((c.val / 2) % 2), by have := c.isLt; revert this; generalize c.val = v; decide +revert⟩

/-- The neighbour along the last axis is mutual. -/
theorem zp_zp (c : Dev nD) : zp (zp c) = c := by revert c; decide
/-- The neighbour along the first axis is mutual. -/
theorem xp_xp (c : Dev nD) : xp (xp c) = c := by revert c; decide
/-- The neighbour along the middle axis is mutual. -/
theorem yp_yp (c : Dev nD) : yp (yp c) = c := by revert c; decide
/-- The two steps to the diagonal neighbour may be taken in either order. -/
theorem yp_xp (c : Dev nD) : yp (xp c) = xp (yp c) := by revert c; decide

/-! ## The buffers -/

/-- The first argument's block. -/
abbrev aM : Memref sig .tc .hbm S512x512 .f32 := Memref.whole main_arg0
/-- The second argument's block. -/
abbrev bM : Memref sig .tc .hbm S512x2048 .f32 := Memref.whole main_arg1
/-- The result. -/
abbrev rM : Memref sig .tc .hbm S256x2048 .f32 := Memref.whole main_v1
/-- The copy of the first argument. -/
abbrev xM : Memref sig .tc .vmem S512x512 .f32 := Memref.whole cc0_scratch0
/-- The copy of the second argument. -/
abbrev dM : Memref sig .tc .vmem S512x2048 .f32 := Memref.whole cc0_scratch1
/-- The rows of the result under way. -/
abbrev oM : Memref sig .tc .vmem S256x2048 .f32 := Memref.whole cc0_scratch2
/-- The packed block. -/
abbrev kM : Memref sig .tc .vmem S8x16x2048 .bf16 := Memref.whole cc0_scratch3
/-- Where chunks land along the last axis. -/
abbrev zM : Memref sig .tc .vmem S4x16x2048 .bf16 := Memref.whole cc0_scratch4
/-- Where chunks land along the first axis. -/
abbrev pM : Memref sig .tc .vmem S4x16x2048 .bf16 := Memref.whole cc0_scratch5
/-- Where chunks land along the middle axis. -/
abbrev qM : Memref sig .tc .vmem S4x16x2048 .bf16 := Memref.whole cc0_scratch6
/-- Where the chunks forwarded twice land. -/
abbrev gM : Memref sig .tc .vmem S4x16x2048 .bf16 := Memref.whole cc0_scratch7

/-! ### Their parts -/

/-- Each half of the columns lies in the buffer. -/
theorem half_inb (h : Fin 2) : ∀ a, (![0, 1024 * h.val] : Fin 2 → Nat) a + S512x1024.size a ≤ S512x2048.size a := by
  revert h; decide
/-- Half `h` of the columns of a 512 × 2048 buffer. -/
abbrev halfR (h : Fin 2) : Rect S512x2048 := Rect.unit (s := S512x2048) ![0, 1024 * h.val] S512x1024.size (half_inb h)
/-- Half `h` of the columns, as a view. -/
abbrev halfM {sp : Space} (M : Memref sig .tc sp S512x2048 .f32) (h : Fin 2) : Memref sig .tc sp S512x1024 .f32 :=
  M.slice (halfR h) (fun _ => rfl)

/-- Each half of the columns lies in the packed block. -/
theorem khalf_inb (h : Fin 2) : ∀ a, (![0, 0, 1024 * h.val] : Fin 3 → Nat) a + S8x16x1024.size a ≤ S8x16x2048.size a := by
  revert h; decide
/-- Half `h` of the columns of the packed block. -/
abbrev khalfR (h : Fin 2) : Rect S8x16x2048 := Rect.unit (s := S8x16x2048) ![0, 0, 1024 * h.val] S8x16x1024.size (khalf_inb h)

/-- Each chunk lies in the landing buffer. -/
theorem chunk_inb (k : Fin 4) : ∀ a, (![k.val, 0, 0] : Fin 3 → Nat) a + S1x16x2048.size a ≤ S4x16x2048.size a := by
  revert k; decide
/-- Chunk `k` of a landing buffer. -/
abbrev chunkR (k : Fin 4) : Rect S4x16x2048 := Rect.unit (s := S4x16x2048) ![k.val, 0, 0] S1x16x2048.size (chunk_inb k)
/-- Chunk `k` of a landing buffer, as a view. -/
abbrev chunkM (M : Memref sig .tc .vmem S4x16x2048 .bf16) (k : Fin 4) : Memref sig .tc .vmem S16x2048 .bf16 :=
  (M.slice (chunkR k) (fun _ => rfl)).squeeze S16x2048 squeezes_S1x16x2048_S16x2048

/-- Chunk `k` of the half of the packed block that device `c` sends. -/
abbrev sentR (c : Dev nD) (k : Fin 4) : Rect S8x16x2048 :=
  Rect.unit (s := S8x16x2048) (k0_off2 c (BitVec.ofNat 32 k.val)) S1x16x2048.size (k0_off2_inb c k)
/-- Chunk `k` that device `c` sends, as a view. -/
abbrev sentM (c : Dev nD) (k : Fin 4) : Memref sig .tc .vmem S16x2048 .bf16 :=
  (kM.slice (sentR c k) (fun _ => rfl)).squeeze S16x2048 squeezes_S1x16x2048_S16x2048

/-- Each chunk that stays lies in the packed block. -/
theorem keep_inb (c : Dev nD) (k : Fin 4) :
    ∀ a, (![4 * (1 - (c.val / 2) % 2) + k.val, 0, 0] : Fin 3 → Nat) a + S1x16x2048.size a ≤ S8x16x2048.size a := by
  revert c k; decide
/-- Chunk `k` of the half of the packed block that device `c` does not send. -/
abbrev keepR (c : Dev nD) (k : Fin 4) : Rect S8x16x2048 :=
  Rect.unit (s := S8x16x2048) ![4 * (1 - (c.val / 2) % 2) + k.val, 0, 0] S1x16x2048.size (keep_inb c k)

/-- The first row of the quarter that device `c` finishes `j`-th. -/
abbrev qoff (c : Dev nD) : Fin 4 → Fin 2 → ℕ
  | 0 => k0_off5 c
  | 1 => k0_off7 c
  | 2 => k0_off9 c
  | 3 => k0_off11 c
/-- Each quarter lies in the result. -/
theorem q_inb (c : Dev nD) : (j : Fin 4) → ∀ a, qoff c j a + S64x2048.size a ≤ S256x2048.size a
  | 0 => k0_off5_inb c
  | 1 => k0_off7_inb c
  | 2 => k0_off9_inb c
  | 3 => k0_off11_inb c
/-- The quarter of the rows of the result that device `c` finishes `j`-th. -/
abbrev quartR (c : Dev nD) (j : Fin 4) : Rect S256x2048 := Rect.unit (s := S256x2048) (qoff c j) S64x2048.size (q_inb c j)
/-- The quarter that device `c` finishes `j`-th, as a view. -/
abbrev quartM {sp : Space} (M : Memref sig .tc sp S256x2048 .f32) (c : Dev nD) (j : Fin 4) : Memref sig .tc sp S64x2048 .f32 :=
  M.slice (quartR c j) (fun _ => rfl)

/-! ## What the buffers come to hold -/

section Contents

variable (m : (ℓ : Loc nD τ sig) → Buf (Elt F) ℓ)

/-- Device `c`'s block of the first argument. -/
def xin (c : Dev nD) : Vec F S512x512 .f32 := m ((c : Thread nD τ).loc main_arg0)
/-- Device `c`'s block of the second argument. -/
def yin (c : Dev nD) : Vec F S512x2048 .f32 := m ((c : Thread nD τ).loc main_arg1)
/-- Half `h` of the columns of the second argument's block. -/
def yhalf (c : Dev nD) (h : Fin 2) : Vec F S512x1024 .f32 := fun i => yin m c ((halfR h).emb i)
/-- The columns of the first argument's block whose products device `c` packs. -/
def xpack (c : Dev nD) : Vec F S512x128 .f32 :=
  fun i => xin m c ((Rect.unit (s := S512x512) (k0_off1 c) S512x128.size (k0_off1_inb c)).emb i)
/-- The columns of the first argument's block whose products device `c` keeps. -/
def xkeep (c : Dev nD) : Vec F S512x256 .f32 :=
  fun i => xin m c ((Rect.unit (s := S512x512) (k0_off3 c) S512x256.size (k0_off3_inb c)).emb i)

/-- One half of the packed block. -/
def packHalf (c : Dev nD) (h : Fin 2) : FVec F S8x16x1024 .bf16 := k0_pay1 (xpack m c) (yhalf m c h)
/-- The packed block: both halves side by side. -/
def packed (c : Dev nD) : FVec F S8x16x2048 .bf16 := fun i =>
  if h : (i 2).val < 1024 then packHalf m c 0 (ix3 (i 0) (i 1) ⟨(i 2).val, h⟩)
  else packHalf m c 1 (ix3 (i 0) (i 1) ⟨(i 2).val - 1024, by have : (i 2).val < 2048 := (i 2).isLt; omega⟩)

/-- The chunks of a half are among the eight. -/
theorem four_lt (c : Dev nD) (k : Fin 4) : 4 * ((c.val / 2) % 2) + k.val < 8 := by omega

/-- What device `c` receives from its neighbour along the last axis: half of the neighbour's packed block. -/
def zin (c : Dev nD) : FVec F S4x16x2048 .bf16 := fun i =>
  packed m (zp c) (ix3 ⟨4 * ((c.val / 2) % 2) + (i 0).val, four_lt c (i 0)⟩ (i 1) (i 2))
/-- Chunk `k` of a landing buffer's contents. -/
def chunkOf (V : FVec F S4x16x2048 .bf16) (k : Fin 4) : FVec F S16x2048 .bf16 := fun i =>
  V ((chunkR k).emb (Shape.reshapeEquiv squeezes_S1x16x2048_S16x2048.numel_eq i))

/-- The device's own product. -/
def ownProd (c : Dev nD) : FVec F S256x2048 .f32 := k0_pay3 (xkeep m c) (yin m c) (constant S256x2048 .f32 0x00000000#32)
/-- Which device's received half is added to the quarter that device `c` finishes `j`-th. -/
def via (c : Dev nD) : Fin 4 → Dev nD
  | 0 => c
  | 1 => xp c
  | 2 => yp c
  | 3 => xp (yp c)
/-- The quarter of the result that device `c` finishes `j`-th. -/
def quart (c : Dev nD) (j : Fin 4) : FVec F S64x2048 .f32 :=
  k0_pay4 (fun i => ownProd m c ((quartR c j).emb i)) (zin m (via c j))

end Contents

end Cert.KernelIdeal.Scatter
-- ==== Proof.Cells.lean ====
module

public import proofs.«01_k».proof.Proof.Mesh

/-! The semaphore cells of the kernel, the round each carries, and what each device owes at launch. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The channels -/

/-- What a DMA semaphore counts. -/
inductive Ch
  /-- The copy in of the first argument. -/
  | inX
  /-- The copy in of half `h` of the second argument. -/
  | inD (h : Fin 2)
  /-- The copy out of the `j`-th quarter. -/
  | out (j : Fin 4)
  /-- Chunk `k` sent along the last axis, at the sender. -/
  | zs (k : Fin 4)
  /-- Chunk `k` sent along the last axis, at the receiver. -/
  | zr (k : Fin 4)
  /-- Chunk `k` forwarded along the first axis, at the sender. -/
  | ps (k : Fin 4)
  /-- Chunk `k` forwarded along the first axis, at the receiver. -/
  | pr (k : Fin 4)
  /-- Chunk `k` forwarded along the middle axis, at the sender. -/
  | qs (k : Fin 4)
  /-- Chunk `k` forwarded along the middle axis, at the receiver. -/
  | qr (k : Fin 4)
  /-- Chunk `k` forwarded a second time, at the sender. -/
  | gs (k : Fin 4)
  /-- Chunk `k` forwarded a second time, at the receiver. -/
  | gr (k : Fin 4)
  deriving DecidableEq

/-- The semaphore of a channel. -/
def Ch.sem : Ch → DmaSem sig
  | inX => (0 : Fin 39)
  | inD h => (⟨1 + h.val, by omega⟩ : Fin 39)
  | out j => (⟨3 + j.val, by omega⟩ : Fin 39)
  | zs k => (⟨7 + k.val, by omega⟩ : Fin 39)
  | zr k => (⟨11 + k.val, by omega⟩ : Fin 39)
  | ps k => (⟨15 + k.val, by omega⟩ : Fin 39)
  | pr k => (⟨19 + k.val, by omega⟩ : Fin 39)
  | qs k => (⟨23 + k.val, by omega⟩ : Fin 39)
  | qr k => (⟨27 + k.val, by omega⟩ : Fin 39)
  | gs k => (⟨31 + k.val, by omega⟩ : Fin 39)
  | gr k => (⟨35 + k.val, by omega⟩ : Fin 39)

/-- The channel of a semaphore. -/
def chOf (s : Fin 39) : Ch :=
  if s.val = 0 then .inX
  else if h : s.val < 3 then .inD ⟨s.val - 1, by omega⟩
  else
    let k : Fin 4 := ⟨(s.val + 1) % 4, Nat.mod_lt _ (by decide)⟩
    match (s.val + 1) / 4 with
    | 1 => .out k
    | 2 => .zs k
    | 3 => .zr k
    | 4 => .ps k
    | 5 => .pr k
    | 6 => .qs k
    | 7 => .qr k
    | 8 => .gs k
    | _ => .gr k

/-- The channel of a channel's semaphore is that channel. -/
theorem chOf_sem (ch : Ch) : chOf ch.sem = ch := by
  cases ch with
  | inX => rfl
  | inD k => revert k; decide
  | out k => revert k; decide
  | zs k => revert k; decide
  | zr k => revert k; decide
  | ps k => revert k; decide
  | pr k => revert k; decide
  | qs k => revert k; decide
  | qr k => revert k; decide
  | gs k => revert k; decide
  | gr k => revert k; decide

/-- The cell of a channel on device `c`. -/
abbrev cell (c : Dev nD) (ch : Ch) : GSem nD τ sig := ((c : Thread nD τ), .dma ch.sem)
/-- The barrier's cell on device `c`. -/
abbrev bar (c : Dev nD) : GSem nD τ sig := ((c : Thread nD τ), .reg barrier0)

/-- What a transfer on a channel adds to its cell. -/
def Ch.amt : Ch → ℕ
  | inX => xM.view.dmaCredit
  | inD h => (halfM dM h).view.dmaCredit
  | out j => (quartM rM 0 j).view.dmaCredit
  | _ => (chunkM zM 0).view.dmaCredit

/-- A transfer adds something to its cell. -/
theorem Ch.amt_pos (ch : Ch) : 0 < ch.amt := by
  cases ch <;> exact View.dmaCredit_pos _ (by decide)

/-- A conjunction over two indices, written out. -/
theorem sep_two (P : Fin 2 → sProp 𝕄) : bigSep Finset.univ P = iprop(P 0 ∗ P 1) :=
  bigSep_univ_eq_bigSepL [0, 1] (by decide) (by decide) P
/-- A conjunction over three indices, written out. -/
theorem sep_three (P : Fin 3 → sProp 𝕄) : bigSep Finset.univ P = iprop(P 0 ∗ P 1 ∗ P 2) :=
  bigSep_univ_eq_bigSepL [0, 1, 2] (by decide) (by decide) P
/-- A conjunction over four indices, written out. -/
theorem sep_four (P : Fin 4 → sProp 𝕄) : bigSep Finset.univ P = iprop(P 0 ∗ P 1 ∗ P 2 ∗ P 3) :=
  bigSep_univ_eq_bigSepL [0, 1, 2, 3] (by decide) (by decide) P

/-! ## The payloads -/

/-- The share of a received chunk that is lent to the first of two forwards. -/
abbrev lent1 : PosShare TreeShare := fullShare.left
/-- The share of a received chunk that is lent to the second of two forwards. -/
abbrev lent2 : PosShare TreeShare := fullShare.right.left
/-- The share of a twice forwarded chunk that stays with its holder. -/
abbrev kept2 : PosShare TreeShare := fullShare.right.right
/-- The share of a once forwarded chunk that stays with its holder. -/
abbrev kept1 : PosShare TreeShare := fullShare.right

/-- Device `c` holds a memref at contents nothing is said about. -/
def ownsAny (c : Dev nD) {sp : Space} {sh : Shape} {e : EltTy} (M : Memref sig .tc sp sh e) : sProp 𝕄 :=
  iprop(∃ V, ownsTc c M fullShare V)

/-- Ownership of a buffer with any contents may be kept in an invariant. -/
instance ownsAny_storable (c : Dev nD) {sp : Space} {sh : Shape} {e : EltTy} (M : Memref sig .tc sp sh e) :
    BI.Storable (upEmb : UEmb _ 𝕄) (ownsAny (F := F) c M) := by unfold ownsAny; infer_instance

section Pay

variable (m : (ℓ : Loc nD τ sig) → Buf (Elt F) ℓ)

/-- What the completion of a channel's transfer hands device `c`. -/
def pay (c : Dev nD) : Ch → sProp 𝕄
  | .inX => iprop(ownsTc c xM fullShare (xin m c) ∗ ownsTc c aM fullShare (xin m c))
  | .inD h => iprop(ownsTc c (halfM dM h) fullShare (yhalf m c h) ∗ ownsTc c (halfM bM h) fullShare (yhalf m c h))
  | .out j => iprop(ownsTc c (quartM rM c j) fullShare (quart m c j) ∗ ownsTc c (quartM oM c j) fullShare (quart m c j))
  | .zs k => ownsTc c (sentM c k) fullShare (chunkOf (zin m (zp c)) k)
  | .zr k => ownsTc c (chunkM zM k) fullShare (chunkOf (zin m c) k)
  | .ps k => ownsTc c (chunkM zM k) lent1 (chunkOf (zin m c) k)
  | .pr k => ownsTc c (chunkM pM k) fullShare (chunkOf (zin m (xp c)) k)
  | .qs k => ownsTc c (chunkM zM k) lent2 (chunkOf (zin m c) k)
  | .qr k => ownsTc c (chunkM qM k) fullShare (chunkOf (zin m (yp c)) k)
  | .gs k => if k.val < 2 then ownsTc c (chunkM pM k) lent1 (chunkOf (zin m (xp c)) k)
      else ownsTc c (chunkM qM k) lent1 (chunkOf (zin m (yp c)) k)
  | .gr k => ownsTc c (chunkM gM k) fullShare (chunkOf (zin m (xp (yp c))) k)

/-- What a neighbour's barrier signal hands device `c`: the neighbour's landing chunks that `c` will write. -/
def barPay (c : Dev nD) : Fin 3 → sProp 𝕄
  | 0 => iprop(ownsAny (zp c) (chunkM zM 0) ∗ ownsAny (zp c) (chunkM zM 1) ∗ ownsAny (zp c) (chunkM zM 2) ∗ ownsAny (zp c) (chunkM zM 3))
  | 1 => iprop((ownsAny (xp c) (chunkM pM 0) ∗ ownsAny (xp c) (chunkM pM 1) ∗ ownsAny (xp c) (chunkM pM 2) ∗ ownsAny (xp c) (chunkM pM 3))
      ∗ ownsAny (xp c) (chunkM gM 2) ∗ ownsAny (xp c) (chunkM gM 3))
  | 2 => iprop((ownsAny (yp c) (chunkM qM 0) ∗ ownsAny (yp c) (chunkM qM 1) ∗ ownsAny (yp c) (chunkM qM 2) ∗ ownsAny (yp c) (chunkM qM 3))
      ∗ ownsAny (yp c) (chunkM gM 0) ∗ ownsAny (yp c) (chunkM gM 1))

/-- What a transfer hands over may be kept in an invariant. -/
instance pay_storable (c : Dev nD) (ch : Ch) : BI.Storable (upEmb : UEmb _ 𝕄) (pay m c ch) := by
  cases ch <;> simp only [pay] <;> (try split) <;> infer_instance

/-- What a barrier signal hands over may be kept in an invariant. -/
instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance

/-! ## The schedule -/

/-- Every cell carries one round: the barrier's three units, one from each neighbour, or one transfer. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => (chOf s).amt
  payload g _ d := match g.2 with | .reg _ => barPay g.1.1 d | .dma s => pay m g.1.1 (chOf s)
  amount_pos g _ _ _ := by
    obtain ⟨t, s⟩ := g
    cases s with
    | reg s => exact Nat.one_pos
    | dma s => exact Ch.amt_pos _

/-- Every payload of the schedule may be kept in an invariant. -/
instance Rd_storable (g : GSem nD τ sig) (r : ℕ) (d : Fin 3) : BI.Storable (upEmb : UEmb _ 𝕄) ((Rd m).payload g r d) := by
  obtain ⟨t, s⟩ := g
  cases s with
  | reg s => exact barPay_storable t.1 d
  | dma s => exact pay_storable m t.1 (chOf s)

/-- The barrier's round has three duties. -/
theorem duties_bar (c : Dev nD) : (Rd m).duties (bar c) 0 = Finset.univ := by
  dsimp only [Rd]; exact if_pos ⟨rfl, rfl⟩
/-- A channel's round has one duty. -/
theorem duties_cell (c : Dev nD) (ch : Ch) : (Rd m).duties (cell c ch) 0 = {0} := by
  dsimp only [Rd]; exact if_pos ⟨rfl, rfl⟩
/-- No later round has a duty. -/
theorem duties_later (g : GSem nD τ sig) : ∀ r, 1 ≤ r → (Rd m).duties g r = ∅ :=
  fun r hr => by dsimp only [Rd]; exact if_neg fun h => by omega

/-- A duty on the barrier is one unit. -/
theorem amount_bar (c : Dev nD) (d : Fin 3) : (Rd m).amount (bar c) 0 d = 1 := rfl
/-- A duty on a channel is its transfer's amount. -/
theorem amount_cell (c : Dev nD) (ch : Ch) (d : Fin 3) : (Rd m).amount (cell c ch) 0 d = ch.amt := congrArg Ch.amt (chOf_sem ch)

/-- A barrier duty's payload is the neighbour's landing chunks. -/
theorem payload_bar (c : Dev nD) (d : Fin 3) : (Rd m).payload (bar c) 0 d = barPay c d := rfl
/-- A channel duty's payload is what its transfer hands over. -/
theorem payload_cell (c : Dev nD) (ch : Ch) (d : Fin 3) : (Rd m).payload (cell c ch) 0 d = pay m c ch := congrArg (pay m c) (chOf_sem ch)

/-- The barrier's round is three units. -/
theorem expect_bar (c : Dev nD) : (Rd m).expect (bar c) 0 = 3 := by
  unfold Schedule.expect Schedule.amountOf; rw [duties_bar]; rfl
/-- A channel's round is its transfer's amount. -/
theorem expect_cell (c : Dev nD) (ch : Ch) : (Rd m).expect (cell c ch) 0 = ch.amt := by
  unfold Schedule.expect Schedule.amountOf; rw [duties_cell, Finset.sum_singleton, amount_cell]

/-- All payloads of the barrier's round together. -/
theorem rest_bar (c : Dev nD) :
    bigSep ((Rd m).duties (bar c) 0 \ ∅) (fun d => (Rd m).payload (bar c) 0 d) = iprop(barPay c 0 ∗ barPay c 1 ∗ barPay (F := F) c 2) := by
  rw [Finset.sdiff_empty, duties_bar]
  exact sep_three _
/-- The payload of a channel's round. -/
theorem rest_cell (c : Dev nD) (ch : Ch) :
    bigSep ((Rd m).duties (cell c ch) 0 \ ∅) (fun d => (Rd m).payload (cell c ch) 0 d) = pay m c ch := by
  rw [Finset.sdiff_empty, duties_cell, bigSep_singleton, payload_cell]

end Pay

/-! ## What a device owes, and in which order cells are waited for -/

/-- One entry of the launch's debts: whose cell, which cell, how much. -/
abbrev Due : Type := (Dev nD → Dev nD) × SemLoc sig × ℕ

/-- What every device owes its neighbours at launch, in the order it pays. -/
def dues : List Due :=
  [(zp, .reg barrier0, 1), (xp, .reg barrier0, 1), (yp, .reg barrier0, 1),
   (zp, .dma (Ch.zr 0).sem, (Ch.zr 0).amt), (zp, .dma (Ch.zr 1).sem, (Ch.zr 1).amt),
   (zp, .dma (Ch.zr 2).sem, (Ch.zr 2).amt), (zp, .dma (Ch.zr 3).sem, (Ch.zr 3).amt),
   (xp, .dma (Ch.pr 0).sem, (Ch.pr 0).amt), (yp, .dma (Ch.qr 0).sem, (Ch.qr 0).amt),
   (xp, .dma (Ch.pr 1).sem, (Ch.pr 1).amt), (yp, .dma (Ch.qr 1).sem, (Ch.qr 1).amt),
   (xp, .dma (Ch.pr 2).sem, (Ch.pr 2).amt), (yp, .dma (Ch.qr 2).sem, (Ch.qr 2).amt),
   (xp, .dma (Ch.pr 3).sem, (Ch.pr 3).amt), (yp, .dma (Ch.qr 3).sem, (Ch.qr 3).amt),
   (yp, .dma (Ch.gr 0).sem, (Ch.gr 0).amt), (yp, .dma (Ch.gr 1).sem, (Ch.gr 1).amt),
   (xp, .dma (Ch.gr 2).sem, (Ch.gr 2).amt), (xp, .dma (Ch.gr 3).sem, (Ch.gr 3).amt)]

/-- The debts of device `c` on a list of entries. -/
def owe (c : Dev nD) : List Due → CellTallies nD τ sig Unit
  | [] => 0
  | p :: l => owe c l + tallyAt ((p.1 c : Thread nD τ), p.2.1) () p.2.2

/-- Every TensorCore cell has a level. -/
def L (g : GSem nD τ sig) : Finset Unit := if g.1.2 = .tc then {()} else ∅
/-- A cell of another core has no level. -/
theorem L_of_ne (g : GSem nD τ sig) (h : g.1.2 ≠ .tc) : L g = ∅ := if_neg h
/-- A TensorCore cell has one level. -/
theorem L_tc (c : Dev nD) (sm : SemLoc sig) : L ((c : Thread nD τ), sm) = {()} := if_pos rfl

/-- The level of a channel: a device waits at a level while owing only above it. -/
def Ch.lev : Ch → ℕ
  | zr _ => 2
  | pr _ => 3
  | qr _ => 3
  | gr _ => 4
  | _ => 0
/-- The level of a cell. -/
def slev : SemLoc sig → ℕ
  | .reg _ => 1
  | .dma s => (chOf s).lev
/-- The levels of the cells. -/
def lv (g : GSem nD τ sig) (_ : Unit) : ℕ := slev g.2

/-- A cell on which something is owed is the cell of an entry of the list. -/
theorem owe_pos {c : Dev nD} {g : GSem nD τ sig} {u : Unit} : {l : List Due} → 0 < owe c l g u →
    ∃ p ∈ l, g = ((p.1 c : Thread nD τ), p.2.1)
  | [], h => absurd h (Nat.lt_irrefl 0)
  | p :: l, h => by
    unfold owe at h
    rw [Pi.add_apply, Finsupp.add_apply, tallyAt_apply] at h
    by_cases hg : g = ((p.1 c : Thread nD τ), p.2.1) ∧ u = ()
    · exact ⟨p, List.mem_cons_self, hg.1⟩
    · rw [if_neg hg, Nat.add_zero] at h
      obtain ⟨p', hp', e⟩ := owe_pos h
      exact ⟨p', List.mem_cons_of_mem _ hp', e⟩

/-- A device may wait on a cell whose level is below everything it owes. -/
theorem mayWait (c : Dev nD) (sm : SemLoc sig) (l : List Due) (h : ∀ p ∈ l, slev sm < slev p.2.1) :
    (levAts L lv : sProp 𝕄) ⊢ MayWait (c : Thread nD τ) sm () (owe c l) :=
  MayOwe.of_cut (L := L) (lev := lv) (slev sm)
    (fun p hp => by rw [Finset.mem_singleton.mp hp, L_tc]; exact Finset.mem_singleton_self _)
    (fun g u hg => by obtain ⟨p, hp, rfl⟩ := owe_pos hg; rw [L_tc]; exact Finset.mem_singleton_self _)
    (fun p hp => by rw [Finset.mem_singleton.mp hp]; exact le_refl _)
    (fun g u hg => by obtain ⟨p, hp, rfl⟩ := owe_pos hg; exact h p hp)

end Cert.KernelIdeal.Scatter
-- ==== Proof.Parts.lean ====
module

public import proofs.«01_k».proof.Proof.Cells

/-! A buffer held whole is its parts held side by side; loads and stores through a part. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Elements of a part -/

/-- The elements of a unit-stride rectangle, axis by axis. -/
theorem mem_unit {s : Shape} {off size : Fin s.rank → ℕ} {inb : ∀ a, off a + size a ≤ s.size a} {i : s.Idx} :
    i ∈ (Rect.unit off size inb).set ↔ ∀ a, off a ≤ (i a).val ∧ (i a).val < off a + size a := by
  rw [LoadRect.mem_set]
  refine forall_congr' fun a => ⟨fun ⟨j, hj, e⟩ => ?_, fun ⟨h₁, h₂⟩ => ⟨(i a).val - off a, ?_, ?_⟩⟩
  · have e' : (i a).val = off a + 1 * j := e
    have hj' : j < size a := hj
    omega
  · show _ < size a
    omega
  · show (i a).val = off a + 1 * _
    omega

/-- The rectangle that is the whole shape places every index at itself. -/
theorem emb_all {s : Shape} {off : Fin s.rank → ℕ} (h : ∀ a, off a = 0) (inb : ∀ a, off a + s.size a ≤ s.size a) (i : s.Idx) :
    (Rect.unit off s.size inb).emb i = i :=
  funext fun a => Fin.ext (by show off a + 1 * (i a).val = (i a).val; rw [h a]; omega)

/-- The two halves of the columns are disjoint. -/
theorem disj_half (h h' : Fin 2) (hne : h ≠ h') : Disjoint (halfR h).set (halfR h').set := by
  rw [Finset.disjoint_left]
  intro i hi hi'
  have h₁ := mem_unit.mp hi 1
  have h₂ := mem_unit.mp hi' 1
  have := Fin.val_ne_of_ne hne
  simp at h₁ h₂
  omega
/-- The two halves are all columns. -/
theorem cover_half : (Finset.univ : Finset (Fin 2)).biUnion (fun h => (halfR h).set) = Finset.univ := by
  ext i
  have h0 := idx2_lt0 i
  have h1 := idx2_lt1 i
  simp only [Finset.mem_biUnion, Finset.mem_univ, true_and, iff_true]
  refine ⟨⟨(i 1).val / 1024, by omega⟩, mem_unit.mpr fun a => ?_⟩
  fin_cases a <;> simp <;> omega

/-- The two halves of the packed block are disjoint. -/
theorem disj_khalf (h h' : Fin 2) (hne : h ≠ h') : Disjoint (khalfR h).set (khalfR h').set := by
  rw [Finset.disjoint_left]
  intro i hi hi'
  have h₁ := mem_unit.mp hi 2
  have h₂ := mem_unit.mp hi' 2
  have := Fin.val_ne_of_ne hne
  simp at h₁ h₂
  omega
/-- The two halves are all of the packed block. -/
theorem cover_khalf : (Finset.univ : Finset (Fin 2)).biUnion (fun h => (khalfR h).set) = Finset.univ := by
  ext i
  have h0 : (i 0).val < 8 := (i 0).isLt
  have h1 : (i 1).val < 16 := (i 1).isLt
  have h2 : (i 2).val < 2048 := (i 2).isLt
  simp only [Finset.mem_biUnion, Finset.mem_univ, true_and, iff_true]
  refine ⟨⟨(i 2).val / 1024, by omega⟩, mem_unit.mpr fun a => ?_⟩
  fin_cases a <;> simp <;> omega

/-- Different chunks are disjoint. -/
theorem disj_chunk (k k' : Fin 4) (hne : k ≠ k') : Disjoint (chunkR k).set (chunkR k').set := by
  rw [Finset.disjoint_left]
  intro i hi hi'
  have h₁ := mem_unit.mp hi 0
  have h₂ := mem_unit.mp hi' 0
  have := Fin.val_ne_of_ne hne
  simp at h₁ h₂
  omega
/-- The four chunks are all of a landing buffer. -/
theorem cover_chunk : (Finset.univ : Finset (Fin 4)).biUnion (fun k => (chunkR k).set) = Finset.univ := by
  ext i
  have h0 : (i 0).val < 4 := (i 0).isLt
  have h1 : (i 1).val < 16 := (i 1).isLt
  have h2 : (i 2).val < 2048 := (i 2).isLt
  simp only [Finset.mem_biUnion, Finset.mem_univ, true_and, iff_true]
  refine ⟨⟨(i 0).val, by omega⟩, mem_unit.mpr fun a => ?_⟩
  fin_cases a <;> simp <;> omega

/-- The number of the quarter that device `c` finishes `j`-th. -/
def qnum (c : Dev nD) : Fin 4 → ℕ
  | 0 => 2 * (c.val / 4) + (c.val / 2) % 2
  | 1 => 2 * (1 - c.val / 4) + (c.val / 2) % 2
  | 2 => 2 * (c.val / 4) + (1 - (c.val / 2) % 2)
  | 3 => 2 * (1 - c.val / 4) + (1 - (c.val / 2) % 2)
/-- Where a quarter starts, in closed form. -/
theorem qoff_eq (c : Dev nD) (j : Fin 4) : qoff c j = ![64 * qnum c j, 0] := by
  have hc : c.val < 8 := c.isLt
  match j with
  | 0 => rw [show qoff c 0 = k0_off5 c from rfl, k0_off5_eq]; simp [qnum]; omega
  | 1 => rw [show qoff c 1 = k0_off7 c from rfl, k0_off7_eq]; simp [qnum]; omega
  | 2 => rw [show qoff c 2 = k0_off9 c from rfl, k0_off9_eq]; simp [qnum]; omega
  | 3 => rw [show qoff c 3 = k0_off11 c from rfl, k0_off11_eq]; simp [qnum]; omega
/-- Different turns finish different quarters. -/
theorem qnum_inj (c : Dev nD) (j j' : Fin 4) (h : qnum c j = qnum c j') : j = j' := by revert c j j'; decide
/-- Every quarter is finished in some turn. -/
theorem qnum_surj (c : Dev nD) (q : Fin 4) : ∃ j, qnum c j = q.val := by revert c q; decide

/-- Different quarters are disjoint. -/
theorem disj_quart (c : Dev nD) (j j' : Fin 4) (hne : j ≠ j') : Disjoint (quartR c j).set (quartR c j').set := by
  rw [Finset.disjoint_left]
  intro i hi hi'
  have h₁ := mem_unit.mp hi 0
  have h₂ := mem_unit.mp hi' 0
  have hq : qnum c j ≠ qnum c j' := fun e => hne (qnum_inj c j j' e)
  rw [qoff_eq] at h₁ h₂
  simp at h₁ h₂
  omega
/-- The four quarters are all of the result. -/
theorem cover_quart (c : Dev nD) : (Finset.univ : Finset (Fin 4)).biUnion (fun j => (quartR c j).set) = Finset.univ := by
  ext i
  have h0 := idx2_lt0 i
  have h1 := idx2_lt1 i
  simp only [Finset.mem_biUnion, Finset.mem_univ, true_and, iff_true]
  obtain ⟨j, hj⟩ := qnum_surj c ⟨(i 0).val / 64, by omega⟩
  refine ⟨j, mem_unit.mpr fun a => ?_⟩
  rw [qoff_eq]
  fin_cases a <;> simp [hj] <;> omega

/-- The eight chunks of the packed block: the four sent, then the four kept. -/
abbrev packR (c : Dev nD) (t : Fin 2 × Fin 4) : Rect S8x16x2048 :=
  Rect.unit (s := S8x16x2048) (if t.1 = 0 then k0_off2 c (BitVec.ofNat 32 t.2.val) else ![4 * (1 - (c.val / 2) % 2) + t.2.val, 0, 0])
    S1x16x2048.size (by split; exacts [k0_off2_inb c t.2, keep_inb c t.2])

/-- Where a chunk of the packed block starts, in closed form. -/
theorem packoff_eq (c : Dev nD) (t : Fin 2 × Fin 4) :
    (if t.1 = 0 then k0_off2 c (BitVec.ofNat 32 t.2.val) else ![4 * (1 - (c.val / 2) % 2) + t.2.val, 0, 0])
      = ![4 * (if t.1 = 0 then (c.val / 2) % 2 else 1 - (c.val / 2) % 2) + t.2.val, 0, 0] := by
  by_cases h : t.1 = 0
  · rw [if_pos h, if_pos h, k0_off2_eq]
  · rw [if_neg h, if_neg h]

/-- Different chunks of the packed block are disjoint. -/
theorem disj_pack (c : Dev nD) (t t' : Fin 2 × Fin 4) (hne : t ≠ t') : Disjoint (packR c t).set (packR c t').set := by
  rw [Finset.disjoint_left]
  intro i hi hi'
  have h₁ := mem_unit.mp hi 0
  have h₂ := mem_unit.mp hi' 0
  rw [packoff_eq] at h₁ h₂
  apply hne
  obtain ⟨b, k⟩ := t
  obtain ⟨b', k'⟩ := t'
  simp at h₁ h₂
  refine Prod.ext (Fin.ext ?_) (Fin.ext ?_)
  all_goals
    by_cases hb : b = 0 <;> by_cases hb' : b' = 0 <;> simp [hb, hb'] at h₁ h₂ ⊢ <;> omega
/-- The eight chunks are all of the packed block. -/
theorem cover_pack (c : Dev nD) : (Finset.univ : Finset (Fin 2 × Fin 4)).biUnion (fun t => (packR c t).set) = Finset.univ := by
  ext i
  have h0 : (i 0).val < 8 := (i 0).isLt
  have h1 : (i 1).val < 16 := (i 1).isLt
  have h2 : (i 2).val < 2048 := (i 2).isLt
  simp only [Finset.mem_biUnion, Finset.mem_univ, true_and, iff_true]
  refine ⟨(if (i 0).val / 4 = (c.val / 2) % 2 then 0 else 1, ⟨(i 0).val % 4, by omega⟩), mem_unit.mpr fun a => ?_⟩
  rw [packoff_eq]
  by_cases h : (i 0).val / 4 = (c.val / 2) % 2
  · fin_cases a <;> simp [h] <;> omega
  · fin_cases a <;> simp [h] <;> omega

/-! ## Splitting and joining -/

variable (c : Dev nD) (q : PosShare TreeShare)

/-- Holding a squeezed memref is holding the memref. -/
theorem owns_squeeze {sp : Space} {s s' : Shape} {e : EltTy} (M : Memref sig .tc sp s e) (h : s.Squeezes s') (X : s.Idx → Elt F e) :
    (ownsTc c (M.squeeze s' h) q (fun i => X (Shape.reshapeEquiv h.numel_eq i)) : sProp 𝕄) = ownsTc c M q X := by
  unfold ownsTc owns
  refine congrArg _ (funext fun f => ?_)
  have hset : (M.squeeze s' h).view.set = M.view.set := View.set_reshape _ _
  have hread : ((M.squeeze s' h).view.read (Elt F) f = fun i => X (Shape.reshapeEquiv h.numel_eq i)) ↔ M.view.read (Elt F) f = X := by
    constructor
    · intro he
      funext j
      have := congrFun he ((Shape.reshapeEquiv h.numel_eq).symm j)
      simp only [Equiv.apply_symm_apply] at this
      rw [← this, View.read_apply, View.read_apply]
      simp [View.emb]
    · intro he
      funext i
      rw [← he]
      rfl
  rw [hset, hread]

/-- A buffer of the second argument cut into its halves. -/
theorem halves_split {sp : Space} (M : Memref sig .tc sp S512x2048 .f32) (V : S512x2048.Idx → Elt F .f32) :
    (ownsTc c M q V : sProp 𝕄) ⊢ iprop(ownsTc c (halfM M 0) q (fun i => V ((halfR 0).emb i)) ∗ ownsTc c (halfM M 1) q (fun i => V ((halfR 1).emb i))) :=
  (owns_rects (c : Thread nD τ) M q halfR (fun _ _ => rfl) disj_half cover_half V).trans (Entails.of_eq (sep_two _))
/-- The halves of a buffer of the second argument put together. -/
theorem halves_join {sp : Space} (M : Memref sig .tc sp S512x2048 .f32) (V : S512x2048.Idx → Elt F .f32) :
    iprop(ownsTc c (halfM M 0) q (fun i => V ((halfR 0).emb i)) ∗ ownsTc c (halfM M 1) q (fun i => V ((halfR 1).emb i))) ⊢ (ownsTc c M q V : sProp 𝕄) :=
  (Entails.of_eq (sep_two _).symm).trans (owns_of_rects (c : Thread nD τ) M q halfR (fun _ _ => rfl) disj_half cover_half V)

/-- The packed block cut into its halves. -/
theorem khalves_split (V : S8x16x2048.Idx → Elt F .bf16) :
    (ownsTc c kM q V : sProp 𝕄) ⊢ iprop(ownsTc c (kM.slice (khalfR 0) (fun _ => rfl)) q (fun i => V ((khalfR 0).emb i))
      ∗ ownsTc c (kM.slice (khalfR 1) (fun _ => rfl)) q (fun i => V ((khalfR 1).emb i))) :=
  (owns_rects (c : Thread nD τ) kM q khalfR (fun _ _ => rfl) disj_khalf cover_khalf V).trans (Entails.of_eq (sep_two _))
/-- The halves of the packed block put together. -/
theorem khalves_join (V : S8x16x2048.Idx → Elt F .bf16) :
    iprop(ownsTc c (kM.slice (khalfR 0) (fun _ => rfl)) q (fun i => V ((khalfR 0).emb i))
      ∗ ownsTc c (kM.slice (khalfR 1) (fun _ => rfl)) q (fun i => V ((khalfR 1).emb i))) ⊢ (ownsTc c kM q V : sProp 𝕄) :=
  (Entails.of_eq (sep_two _).symm).trans (owns_of_rects (c : Thread nD τ) kM q khalfR (fun _ _ => rfl) disj_khalf cover_khalf V)

/-- A result buffer cut into its quarters. -/
theorem quarts_split {sp : Space} (M : Memref sig .tc sp S256x2048 .f32) (V : S256x2048.Idx → Elt F .f32) :
    (ownsTc c M q V : sProp 𝕄) ⊢ iprop(ownsTc c (quartM M c 0) q (fun i => V ((quartR c 0).emb i)) ∗ ownsTc c (quartM M c 1) q (fun i => V ((quartR c 1).emb i))
      ∗ ownsTc c (quartM M c 2) q (fun i => V ((quartR c 2).emb i)) ∗ ownsTc c (quartM M c 3) q (fun i => V ((quartR c 3).emb i))) :=
  (owns_rects (c : Thread nD τ) M q (quartR c) (fun _ _ => rfl) (disj_quart c) (cover_quart c) V).trans (Entails.of_eq (sep_four _))
/-- The quarters of a result buffer put together. -/
theorem quarts_join {sp : Space} (M : Memref sig .tc sp S256x2048 .f32) (V : S256x2048.Idx → Elt F .f32) :
    iprop(ownsTc c (quartM M c 0) q (fun i => V ((quartR c 0).emb i)) ∗ ownsTc c (quartM M c 1) q (fun i => V ((quartR c 1).emb i))
      ∗ ownsTc c (quartM M c 2) q (fun i => V ((quartR c 2).emb i)) ∗ ownsTc c (quartM M c 3) q (fun i => V ((quartR c 3).emb i)))
      ⊢ (ownsTc c M q V : sProp 𝕄) :=
  (Entails.of_eq (sep_four _).symm).trans (owns_of_rects (c : Thread nD τ) M q (quartR c) (fun _ _ => rfl) (disj_quart c) (cover_quart c) V)

/-- A landing buffer's slices are its chunks with their contents. -/
theorem chunks_eq (M : Memref sig .tc .vmem S4x16x2048 .bf16) (V : S4x16x2048.Idx → Elt F .bf16) :
    (bigSep Finset.univ (fun k => ownsTc c (M.slice (chunkR k) (fun _ => rfl)) q (fun i => V ((chunkR k).emb i))) : sProp 𝕄)
      = iprop(ownsTc c (chunkM M 0) q (chunkOf V 0) ∗ ownsTc c (chunkM M 1) q (chunkOf V 1) ∗ ownsTc c (chunkM M 2) q (chunkOf V 2) ∗ ownsTc c (chunkM M 3) q (chunkOf V 3)) := by
  rw [← sep_four (fun k => ownsTc c (chunkM M k) q (chunkOf V k))]
  exact bigSep_congr fun k _ => (owns_squeeze c q (M.slice (chunkR k) (fun _ => rfl)) squeezes_S1x16x2048_S16x2048 (fun i => V ((chunkR k).emb i))).symm
/-- A landing buffer cut into its chunks. -/
theorem chunks_split (M : Memref sig .tc .vmem S4x16x2048 .bf16) (V : S4x16x2048.Idx → Elt F .bf16) :
    (ownsTc c M q V : sProp 𝕄)
      ⊢ iprop(ownsTc c (chunkM M 0) q (chunkOf V 0) ∗ ownsTc c (chunkM M 1) q (chunkOf V 1) ∗ ownsTc c (chunkM M 2) q (chunkOf V 2) ∗ ownsTc c (chunkM M 3) q (chunkOf V 3)) :=
  (owns_rects (c : Thread nD τ) M q chunkR (fun _ _ => rfl) disj_chunk cover_chunk V).trans (Entails.of_eq (chunks_eq c q M V))
/-- The chunks of a landing buffer put together. -/
theorem chunks_join (M : Memref sig .tc .vmem S4x16x2048 .bf16) (V : S4x16x2048.Idx → Elt F .bf16) :
    iprop(ownsTc c (chunkM M 0) q (chunkOf V 0) ∗ ownsTc c (chunkM M 1) q (chunkOf V 1) ∗ ownsTc c (chunkM M 2) q (chunkOf V 2) ∗ ownsTc c (chunkM M 3) q (chunkOf V 3))
      ⊢ (ownsTc c M q V : sProp 𝕄) :=
  (Entails.of_eq (chunks_eq c q M V).symm).trans (owns_of_rects (c : Thread nD τ) M q chunkR (fun _ _ => rfl) disj_chunk cover_chunk V)

/-- The packed block cut into its eight chunks. -/
theorem pack_parts (V : S8x16x2048.Idx → Elt F .bf16) :
    (ownsTc c kM fullShare V : sProp 𝕄)
      ⊢ bigSep Finset.univ (fun t => ownsTc c (kM.slice (packR c t) (fun _ => rfl)) fullShare (fun i => V ((packR c t).emb i))) :=
  owns_rects (c : Thread nD τ) kM fullShare (packR c) (fun _ _ => rfl) (disj_pack c) (cover_pack c) V
/-- The eight chunks of the packed block put together. -/
theorem pack_whole (V : S8x16x2048.Idx → Elt F .bf16) :
    bigSep Finset.univ (fun t => ownsTc c (kM.slice (packR c t) (fun _ => rfl)) fullShare (fun i => V ((packR c t).emb i)))
      ⊢ (ownsTc c kM fullShare V : sProp 𝕄) :=
  owns_of_rects (c : Thread nD τ) kM fullShare (packR c) (fun _ _ => rfl) (disj_pack c) (cover_pack c) V

section Packed

variable (m : (ℓ : Loc nD τ sig) → Buf (Elt F) ℓ)

/-- A device and its neighbour along the last axis have the same middle coordinate. -/
theorem my_zp (c : Dev nD) : ((zp c).val / 2) % 2 = (c.val / 2) % 2 := by revert c; decide

/-- What the neighbour along the last axis receives is the half that `c` sends. -/
theorem sent_contents (k : Fin 4) : (fun i => packed m c ((sentR c k).emb (Shape.reshapeEquiv squeezes_S1x16x2048_S16x2048.numel_eq i)))
    = chunkOf (zin m (zp c)) k := by
  funext i
  unfold chunkOf zin
  rw [zp_zp]
  generalize (Shape.reshapeEquiv squeezes_S1x16x2048_S16x2048.numel_eq i : S1x16x2048.Idx) = j
  refine congrArg _ (funext fun a => Fin.ext ?_)
  show k0_off2 c (BitVec.ofNat 32 k.val) a + 1 * (j a).val = _
  rw [k0_off2_eq]
  have h0 : (j 0).val < 1 := (j 0).isLt
  have hz := my_zp c
  match a with
  | ⟨0, _⟩ =>
    show 4 * (c.val / 2 % 2) + k.val + 1 * (j 0).val = 4 * ((zp c).val / 2 % 2) + (k.val + 1 * (j 0).val)
    omega
  | ⟨1, _⟩ => rfl
  | ⟨2, _⟩ => rfl

/-- The chunks of the packed block that stay. -/
def keeps (c : Dev nD) : sProp 𝕄 :=
  bigSep Finset.univ fun k : Fin 4 => ownsTc c (kM.slice (packR c (1, k)) (fun _ => rfl)) fullShare (fun i => packed m c ((packR c (1, k)).emb i))

/-- The eight chunks are the four sent, with what the neighbour receives, and the four that stay. -/
theorem pack_eq :
    (bigSep Finset.univ (fun t => ownsTc c (kM.slice (packR c t) (fun _ => rfl)) fullShare (fun i => packed m c ((packR c t).emb i))) : sProp 𝕄)
      = iprop((ownsTc c (sentM c 0) fullShare (chunkOf (zin m (zp c)) 0) ∗ ownsTc c (sentM c 1) fullShare (chunkOf (zin m (zp c)) 1)
          ∗ ownsTc c (sentM c 2) fullShare (chunkOf (zin m (zp c)) 2) ∗ ownsTc c (sentM c 3) fullShare (chunkOf (zin m (zp c)) 3)) ∗ keeps m c) := by
  rw [bigSep_univ_prod, sep_two, ← sep_four (fun k => ownsTc c (sentM c k) fullShare (chunkOf (zin m (zp c)) k))]
  refine congrArg₂ _ (bigSep_congr fun k _ => ?_) rfl
  rw [← sent_contents]
  exact (owns_squeeze c fullShare (kM.slice (sentR c k) (fun _ => rfl)) squeezes_S1x16x2048_S16x2048 (fun i => packed m c ((sentR c k).emb i))).symm
/-- The packed block cut into the chunks sent and those that stay. -/
theorem pack_split :
    (ownsTc c kM fullShare (packed m c) : sProp 𝕄)
      ⊢ iprop((ownsTc c (sentM c 0) fullShare (chunkOf (zin m (zp c)) 0) ∗ ownsTc c (sentM c 1) fullShare (chunkOf (zin m (zp c)) 1)
          ∗ ownsTc c (sentM c 2) fullShare (chunkOf (zin m (zp c)) 2) ∗ ownsTc c (sentM c 3) fullShare (chunkOf (zin m (zp c)) 3)) ∗ keeps m c) := by
  rw [← pack_eq]; exact pack_parts c (packed m c)
/-- The chunks sent and those that stay put together. -/
theorem pack_join :
    iprop((ownsTc c (sentM c 0) fullShare (chunkOf (zin m (zp c)) 0) ∗ ownsTc c (sentM c 1) fullShare (chunkOf (zin m (zp c)) 1)
          ∗ ownsTc c (sentM c 2) fullShare (chunkOf (zin m (zp c)) 2) ∗ ownsTc c (sentM c 3) fullShare (chunkOf (zin m (zp c)) 3)) ∗ keeps m c)
      ⊢ (ownsTc c kM fullShare (packed m c) : sProp 𝕄) := by
  rw [← pack_eq]; exact pack_whole c (packed m c)

/-- Each half of the packed block holds its products. -/
theorem packed_half (h : Fin 2) : (fun i => packed m c ((khalfR h).emb i)) = packHalf m c h := by
  funext i
  have hi : (i 2).val < 1024 := (i 2).isLt
  have hv : (((khalfR h).emb i) 2).val = 1024 * h.val + 1 * (i 2).val := rfl
  unfold packed
  match h with
  | 0 =>
    rw [dif_pos (by rw [hv]; simp; omega)]
    refine congrArg _ (funext fun a => Fin.ext ?_)
    match a with
    | ⟨0, _⟩ => show 0 + 1 * (i 0).val = _; simp
    | ⟨1, _⟩ => show 0 + 1 * (i 1).val = _; simp
    | ⟨2, _⟩ => show 1024 * 0 + 1 * (i 2).val = _; simp
  | 1 =>
    rw [dif_neg (by rw [hv]; simp)]
    refine congrArg _ (funext fun a => Fin.ext ?_)
    match a with
    | ⟨0, _⟩ => show 0 + 1 * (i 0).val = _; simp
    | ⟨1, _⟩ => show 0 + 1 * (i 1).val = _; simp
    | ⟨2, _⟩ => show 1024 * 1 + 1 * (i 2).val - 1024 = (i 2).val; omega

end Packed

/-! ## Shares -/

/-- A held memref is held twice at the two halves of the share. -/
theorem owns_halve {sp : Space} {sh : Shape} {e : EltTy} (M : Memref sig .tc sp sh e) (V : sh.Idx → Elt F e) :
    (ownsTc c M q V : sProp 𝕄) ⊢ iprop(ownsTc c M q.left V ∗ ownsTc c M q.right V) := by
  unfold ownsTc owns
  iintro ⟨%f, %hf, H⟩
  ihave H' := (pointsTo_share q.mem_left_op_right).1 $$ H
  icases H' with ⟨H₁, H₂⟩
  isplitl [H₁]
  · iexists f
    isplitr; · ipureintro; exact hf
    iexact H₁
  · iexists f
    isplitr; · ipureintro; exact hf
    iexact H₂

end Cert.KernelIdeal.Scatter
-- ==== Proof.Steps.lean ====
module

public import proofs.«01_k».proof.Proof.Parts

/-! One step of the kernel at a time: signals, waits, copies, sends, loads and stores, each stated over
    what a device holds. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- No loop of the kernel carries a measure. -/
abbrev 𝒱₀ : Variants := Variants.none

/-! ## What a device holds of the cells -/

/-- The cells of a device: the barrier's, and one for every DMA semaphore. -/
abbrev slot : Option (Fin 39) → SemLoc sig
  | none => .reg barrier0
  | some s => .dma s
/-- A cell of a device by its name. -/
abbrev kcell (ck : Dev nD × Option (Fin 39)) : GSem nD τ sig := ((ck.1 : Thread nD τ), slot ck.2)

section Held

variable (m : (ℓ : Loc nD τ sig) → Buf (Elt F) ℓ)

/-- What every device knows: the invariant of every cell, that every cell is in its round, and the levels. -/
def recs (K : Dev nD × Option (Fin 39) → ℕ) : sProp 𝕄 :=
  iprop((bigSep Finset.univ fun ck => iprop(cellInv ER (Rd m) (K ck) (kcell ck) ∗ reached ER (kcell ck) 0)) ∗ levAts L lv)

/-- What every device knows can be copied. -/
instance recs_persistent (K : Dev nD × Option (Fin 39) → ℕ) : BI.Persistent (recs m K) := by
  unfold recs
  infer_instance

/-- What device `c` still owes. -/
def ow (c : Dev nD) (l : List Due) : sProp 𝕄 := iprop(∃ W, owes (c : Thread nD τ) (owe c l) W)
/-- A transfer under way on device `c`'s cell of a channel, which `c` has still to wait for. -/
def pend (c : Dev nD) (ch : Ch) : sProp 𝕄 := iprop(cred (tallyAt (cell c ch) () ch.amt) ∗ atPos ER (cell c ch) 0 ∅ 0)
/-- The right of device `c` to start the local copy of a channel, and to wait for it. -/
def cpy (c : Dev nD) (ch : Ch) : sProp 𝕄 := iprop(dutyTok ER (cell c ch) 0 0 ∗ atPos ER (cell c ch) 0 ∅ 0)
/-- The right of device `c` to send on channel `ch` to channel `ch'` of device `c'`, and to wait for the departure. -/
def snd (c c' : Dev nD) (ch ch' : Ch) : sProp 𝕄 := iprop(cpy c ch ∗ dutyTok ER (cell c' ch') 0 0)

/-- The levels are known. -/
theorem recs_levels (K) : (recs m K : sProp 𝕄) ⊢ levAts L lv := by
  unfold recs
  iintro ⟨-, H⟩
  iexact H
/-- The invariant of any cell is known, and that it is in its round. -/
theorem recs_at (K) (ck : Dev nD × Option (Fin 39)) :
    (recs m K : sProp 𝕄) ⊢ iprop(cellInv ER (Rd m) (K ck) (kcell ck) ∗ reached ER (kcell ck) 0) := by
  unfold recs
  refine .trans (show _ ⊢ bigSep Finset.univ fun ck : Dev nD × Option (Fin 39) =>
      (iprop(cellInv ER (Rd m) (K ck) (kcell ck) ∗ reached ER (kcell ck) 0) : sProp 𝕄) from by iintro ⟨H, -⟩; iexact H) ?_
  exact bigSep_elim (Φ := fun ck : Dev nD × Option (Fin 39) =>
      (iprop(cellInv ER (Rd m) (K ck) (kcell ck) ∗ reached ER (kcell ck) 0) : sProp 𝕄)) (Finset.mem_univ ck)
/-- The same of a channel's cell. -/
theorem recs_cell (K) (c : Dev nD) (ch : Ch) :
    (recs m K : sProp 𝕄) ⊢ iprop(cellInv ER (Rd m) (K (c, some ch.sem)) (cell c ch) ∗ reached ER (cell c ch) 0) :=
  recs_at m K (c, some ch.sem)
/-- The same of a barrier's cell. -/
theorem recs_bar (K) (c : Dev nD) :
    (recs m K : sProp 𝕄) ⊢ iprop(cellInv ER (Rd m) (K (c, none)) (bar c) ∗ reached ER (bar c) 0) :=
  recs_at m K (c, none)

end Held

/-! ## The steps -/

section Steps

variable (m : (ℓ : Loc nD τ sig) → Buf (Elt F) ℓ) (K : Dev nD × Option (Fin 39) → ℕ) (c : Dev nD)

/-- A barrier signal to a neighbour pays one unit of the debt and hands over landing chunks. -/
theorem step_signal {n c' : Dev nD} (d : Fin 3) (f : Dev nD → Dev nD) (l₀ l : List Due)
    (hl : l₀ = (f, .reg barrier0, 1) :: l) (hn : n = c') (hf : c' = f c)
    {α : Type} {Q : α → sProp 𝕄} {k : PUnit → Prog (TpuEff nD τ sig (Elt F) Λ₀ .tc) α} :
    (recs m K : sProp 𝕄) ⊢ iprop(ow c l₀ -∗ dutyTok ER (bar c') 0 d -∗ barPay c' d
        -∗ (ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barrier0 1) k) Q) := by
  subst hn hl
  unfold ow
  iintro #HR ⟨%W, HO⟩ Ht Hp Hk
  ihave #HI := (recs_bar m K n) $$ HR
  icases HI with ⟨#HI, #Hr⟩
  iapply (Rounds.wp_signal 𝒱₀ ER (Rd m) (c : Thread nD τ) none (dst := (n : Thread nD τ)) (sem := barrier0) (r := 0) (d := d) (κ := K (n, none))
      (by rw [duties_bar]; exact Finset.mem_univ _) (amount_bar m n d) () (owe c l) (W := W) (by subst hf; rfl)) $$ [HO Ht Hp]
  · isplitr; · iexact HI
    isplitl [HO]; · iexact HO
    isplitl [Ht]; · iexact Ht
    isplitl [Hp]; · rw [payload_bar]; iexact Hp
    iexact Hr
  iintro HO
  iapply Hk
  iexists W
  iexact HO

/-- The barrier wait takes the three neighbours' landing chunks. -/
theorem step_barrier (l : List Due) (hl : ∀ p ∈ l, slev (.reg barrier0) < slev p.2.1)
    {α : Type} {Q : α → sProp 𝕄} {k : PUnit → Prog (TpuEff nD τ sig (Elt F) Λ₀ .tc) α} :
    (recs m K : sProp 𝕄) ⊢ iprop(ow c l -∗ cred (tallyAt (bar c) () 3) -∗ atPos ER (bar c) 0 ∅ 0
        -∗ (semVal (bar c) 0 -∗ (barPay c 0 ∗ barPay c 1 ∗ barPay (F := F) c 2) -∗ ow c l
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 3) k) Q) := by
  unfold ow
  iintro #HR ⟨%W, HO⟩ Hc Ha Hk
  ihave #HI := (recs_bar m K c) $$ HR
  icases HI with ⟨#HI, #Hr⟩
  ihave #HL := (recs_levels m K) $$ HR
  iapply (Rounds.wp_wait_rest_token 𝒱₀ ER (Rd m) (c : Thread nD τ) none (κ := K (c, none))
      (wpE_semWait_eq 𝒱₀ (c : Thread nD τ) none Set.univ) (Set.mem_univ _) () (O := owe c l) (W := W) (R := 0) (m := 0) (T := ∅)
      (by rw [Nat.zero_add]; exact (expect_bar m c).symm)) $$ [HO Hc Ha]
  · isplitr; · iexact HI
    isplitl [Hc]; · iexact Hc
    isplitl [HO]; · iexact HO
    isplitr; · iapply (mayWait c (.reg barrier0) l hl); iexact HL
    iexact Ha
  iintro ⟨HO, Ha, -, Hp⟩
  ihave Hp := (Entails.of_eq (rest_bar m c)) $$ Hp
  imod (Rounds.cell_close ER (Rd m) (Set.mem_univ (K (c, none))) (fun h => h) (R := 0 + 1) (duties_later m (bar c))) $$ [Ha] with Hz
  · isplitr; · iexact HI
    iexact Ha
  iapply Hk $$ Hz Hp
  iexists _
  iexact HO

/-- A wait for a channel's transfer takes what its completion hands over, and closes the cell. -/
theorem step_wait (ch : Ch) (l : List Due) (hl : ∀ p ∈ l, slev (.dma ch.sem) < slev p.2.1) {s : DmaSem sig} (hs : s = ch.sem)
    {sp sp' : Space} {sh : Shape} {e : EltTy} {src : Memref sig .tc sp sh e} {dst : Memref sig .tc sp' sh e}
    {h₁ : src.view.WordExact} {h₂ : dst.view.WordExact} (hN : dst.view.dmaCredit = ch.amt)
    {α : Type} {Q : α → sProp 𝕄} {k : PUnit → Prog (TpuEff nD τ sig (Elt F) Λ₀ .tc) α} :
    (recs m K : sProp 𝕄) ⊢ iprop(ow c l -∗ pend c ch
        -∗ (semVal (cell c ch) 0 -∗ pay m c ch -∗ ow c l
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h₁ h₂) k) Q) := by
  subst hs
  unfold ow pend
  iintro #HR ⟨%W, HO⟩ ⟨Hc, Ha⟩ Hk
  ihave #HI := (recs_cell m K c ch) $$ HR
  icases HI with ⟨#HI, #Hr⟩
  ihave #HL := (recs_levels m K) $$ HR
  rw [← hN]
  iapply (Rounds.wp_wait_rest_token 𝒱₀ ER (Rd m) (c : Thread nD τ) none (κ := K (c, some ch.sem))
      (wpE_waitDma2_eq 𝒱₀ (c : Thread nD τ) none Set.univ) (Set.mem_univ _) () (O := owe c l) (W := W) (R := 0) (m := 0) (T := ∅)
      (by rw [Nat.zero_add, hN]; exact (expect_cell m c ch).symm)) $$ [HO Hc Ha]
  · isplitr; · iexact HI
    isplitl [Hc]; · iexact Hc
    isplitl [HO]; · iexact HO
    isplitr; · iapply (mayWait c (.dma ch.sem) l hl); iexact HL
    iexact Ha
  iintro ⟨HO, Ha, -, Hp⟩
  ihave Hp := (Entails.of_eq (rest_cell m c ch)) $$ Hp
  imod (Rounds.cell_close ER (Rd m) (Set.mem_univ (K (c, some ch.sem))) (fun h => h) (R := 0 + 1) (duties_later m (cell c ch))) $$ [Ha] with Hz
  · isplitr; · iexact HI
    iexact Ha
  iapply Hk $$ Hz Hp
  iexists _
  iexact HO

/-- What a transfer writes is what its source reads. -/
theorem landed {c' : Dev nD} {sp' : Space} {sh : Shape} {e : EltTy} (dst : Memref sig .tc sp' sh e) (fd : Buf (Elt F) (dst.view.loc (c' : Thread nD τ)))
    (V : sh.Idx → Elt F e) :
    (dst.view.loc (c' : Thread nD τ) ↦[dst.view.set]{fullShare} (dst.view.write (Elt F) fd V Finset.univ) : sProp 𝕄) ⊢ ownsTc c' dst fullShare V := by
  unfold ownsTc owns
  iintro H
  iexists (dst.view.write (Elt F) fd V Finset.univ)
  isplitr
  · ipureintro; exact View.read_write_univ _ _
  iexact H

/-- Starting a local copy. -/
theorem step_copy (ch : Ch) {s : DmaSem sig} (hs : s = ch.sem)
    {sp sp' : Space} {sh : Shape} {e : EltTy} {src : Memref sig .tc sp sh e} {dst : Memref sig .tc sp' sh e}
    {h₁ : src.view.WordExact} {h₂ : dst.view.WordExact} {h₃ : DmaTarget.Typed (nD := nD) (p := (c : Thread nD τ).2) sp (.dma s) (.here dst)}
    (hN : dst.view.dmaCredit = ch.amt) (q : PosShare TreeShare) (V : sh.Idx → Elt F e)
    (hpay : iprop(ownsTc c dst fullShare V ∗ ownsTc c src q V) ⊢ pay m c ch)
    {α : Type} {Q : α → sProp 𝕄} {k : PUnit → Prog (TpuEff nD τ sig (Elt F) Λ₀ .tc) α} :
    (recs m K : sProp 𝕄) ⊢ iprop(cpy c ch -∗ ownsTc c src q V -∗ ownsAny c dst
        -∗ (pend c ch -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma s) h₁ h₂ h₃) k) Q) := by
  subst hs
  unfold cpy pend ownsAny
  iintro #HR ⟨Ht, Ha⟩ Hs ⟨%V', Hd⟩ Hk
  ihave #HI := (recs_cell m K c ch) $$ HR
  icases HI with ⟨#HI, #Hr⟩
  ihave Hs' := (show (ownsTc c src q V : sProp 𝕄) ⊢ iprop(∃ f, ⌜src.view.read (Elt F) f = V⌝ ∗ (src.view.loc (c : Thread nD τ) ↦[src.view.set]{q} f)) from .rfl) $$ Hs
  ihave Hd' := (show (ownsTc c dst fullShare V' : sProp 𝕄) ⊢ iprop(∃ f, ⌜dst.view.read (Elt F) f = V'⌝ ∗ (dst.view.loc (c : Thread nD τ) ↦[dst.view.set]{fullShare} f)) from .rfl) $$ Hd
  icases Hs' with ⟨%fs, %hfs, Hs⟩
  icases Hd' with ⟨%fd, %hfd, Hd⟩
  iapply (Rounds.wp_copy_pointsTo 𝒱₀ ER (Rd m) (c : Thread nD τ) none (src := src) (dst := dst) (sem := .dma ch.sem) (q := q) (fs := fs) (fd := fd)
      (r := 0) (d := 0) (κ := K (c, some ch.sem)) (by rw [duties_cell]; exact Finset.mem_singleton_self _) () ch.amt hN (amount_cell m c ch 0)
      (by
        rw [payload_cell, hfs]
        refine .trans ?_ hpay
        iintro ⟨H₁, H₂⟩
        isplitl [H₁]
        · iapply (landed dst fd V); iexact H₁
        · unfold ownsTc owns
          iexists fs
          isplitr; · ipureintro; exact hfs
          iexact H₂)) $$ [Hs Hd Ht]
  · isplitr; · iexact HI
    isplitl [Hs]; · iexact Hs
    isplitl [Hd]; · iexact Hd
    isplitl [Ht]; · iexact Ht
    iexact Hr
  iintro Hc
  iapply Hk
  isplitl [Hc]; · iexact Hc
  iexact Ha

/-- Sending a chunk to a neighbour pays the debt's next entry. -/
theorem step_send {n c' : Dev nD} (f : Dev nD → Dev nD) (l₀ l : List Due) (ch ch' : Ch)
    (hl : l₀ = (f, .dma ch'.sem, ch'.amt) :: l) (hn : n = c') (hf : c' = f c)
    {s s' : DmaSem sig} (hs : s = ch.sem) (hs' : s' = ch'.sem)
    {sp sp' : Space} {sh : Shape} {e : EltTy} {src : Memref sig .tc sp sh e} {dst : Memref sig .tc sp' sh e}
    {hsc : (dst : Memref sig (Dev.tc n : Thread nD τ).2.kind sp' sh e).view.ref.isScScratch = false}
    {h₁ : src.view.WordExact} {h₂ : dst.view.WordExact}
    {h₃ : DmaTarget.Typed sp (.dma s') (.remote (Dev.tc n : Thread nD τ) (dst : Memref sig (Dev.tc n : Thread nD τ).2.kind sp' sh e) (.dma s) hsc)}
    (hN : dst.view.dmaCredit = ch.amt) (hN' : dst.view.dmaCredit = ch'.amt) (q : PosShare TreeShare) (V : sh.Idx → Elt F e)
    (hpay : ownsTc c src q V ⊢ pay m c ch) (hpay' : ownsTc c' dst fullShare V ⊢ pay m c' ch')
    {α : Type} {Q : α → sProp 𝕄} {k : PUnit → Prog (TpuEff nD τ sig (Elt F) Λ₀ .tc) α} :
    (recs m K : sProp 𝕄) ⊢ iprop(ow c l₀ -∗ snd c c' ch ch' -∗ ownsTc c src q V -∗ ownsAny c' dst
        -∗ (pend c ch -∗ ow c l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s) hsc) (.dma s') h₁ h₂ h₃) k) Q) := by
  subst hn hl hs hs'
  have hO : owe c ((f, .dma ch'.sem, ch'.amt) :: l) = owe c l + tallyAt (cell n ch') () ch.amt := by
    rw [← hN, hN', hf]; rfl
  unfold snd cpy pend ownsAny ow
  iintro #HR ⟨%W, HO⟩ ⟨⟨Ht, Ha⟩, Ht'⟩ Hs ⟨%V', Hd⟩ Hk
  ihave #HI := (recs_cell m K c ch) $$ HR
  icases HI with ⟨#HI, #Hr⟩
  ihave #HI' := (recs_cell m K n ch') $$ HR
  icases HI' with ⟨#HI', #Hr'⟩
  ihave Hs' := (show (ownsTc c src q V : sProp 𝕄) ⊢ iprop(∃ f, ⌜src.view.read (Elt F) f = V⌝ ∗ (src.view.loc (c : Thread nD τ) ↦[src.view.set]{q} f)) from .rfl) $$ Hs
  ihave Hd' := (show (ownsTc n dst fullShare V' : sProp 𝕄) ⊢ iprop(∃ f, ⌜dst.view.read (Elt F) f = V'⌝ ∗ (dst.view.loc (n : Thread nD τ) ↦[dst.view.set]{fullShare} f)) from .rfl) $$ Hd
  icases Hs' with ⟨%fs, %hfs, Hs⟩
  icases Hd' with ⟨%fd, %hfd, Hd⟩
  iapply (Rounds.wp_send_pointsTo 𝒱₀ ER (Rd m) (c : Thread nD τ) none (κ₁ := K (c, some ch.sem)) (κ₂ := K (n, some ch'.sem))
      (r₁ := 0) (r₂ := 0) (d₁ := 0) (d₂ := 0) (c' := (n : Thread nD τ)) (fs := fs) (fd := fd) (q := q) (src := src) (dst := dst) (sem := .dma ch'.sem) (sS := .dma ch.sem)
      (by rw [duties_cell]; exact Finset.mem_singleton_self _) (by rw [duties_cell]; exact Finset.mem_singleton_self _)
      () () ch.amt hN (amount_cell m c ch 0) ((amount_cell m n ch' 0).trans (hN'.symm.trans hN)) (owe c l)
      (hO) (W := W)
      (by
        rw [payload_cell]
        refine .trans ?_ hpay
        unfold ownsTc owns
        iintro H
        iexists fs
        isplitr; · ipureintro; exact hfs
        iexact H)
      (by
        rw [payload_cell, hfs]
        exact (landed dst fd V).trans hpay')) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk $$ [Hc Ha]
  · isplitl [Hc]; · iexact Hc
    iexact Ha
  iexists W
  iexact HO

/-- A load through a rectangle of a held memref reads its part of the contents. -/
theorem step_load {cs : CoreSpace} {sh : Shape} {e : EltTy} {M : Memref sig .tc cs sh e} (r : Rect sh) {hl : M.view.LoadsAt r.toLoadRect}
    (q : PosShare TreeShare) (V : sh.Idx → Elt F e) (W : r.shape.Idx → Elt F e) (hW : (fun i => V (r.emb i)) = W) {α : Type} {Q : α → sProp 𝕄} {k : (r.shape.Idx → Elt F e) → Prog (TpuEff nD τ sig (Elt F) Λ₀ .tc) α} :
    (ownsTc c M q V : sProp 𝕄)
      ⊢ iprop((ownsTc c M q V -∗ wp frame (wpE (defs₀ (F := F)) 𝒱₀ (c : Thread nD τ) none) Set.univ (k W) Q)
          -∗ wp frame (wpE (defs₀ (F := F)) 𝒱₀ (c : Thread nD τ) none) Set.univ (.op (.load M r.toLoadRect hl) k) Q) := by
  unfold ownsTc owns
  iintro ⟨%f, %hf, H⟩ Hk
  iapply (wp_load 𝒱₀ (c : Thread nD τ) none Set.univ (m := M) (View.setOn_subset_set _ _)) $$ H
  iintro H
  have hv : M.view.readAt (Elt F) r.toLoadRect f = W := by rw [← hW, ← hf]; rfl
  rw [hv]
  iapply Hk
  iexists f
  isplitr; · ipureintro; exact hf
  iexact H

/-- A load of exactly a held part reads the part's contents. -/
theorem step_load_part {cs : CoreSpace} {sh : Shape} {e : EltTy} {M : Memref sig .tc cs sh e} (r : Rect sh) (hr : ∀ a, r.stride a = 1)
    {hl : M.view.LoadsAt r.toLoadRect} (q : PosShare TreeShare) (V : r.shape.Idx → Elt F e)
    {α : Type} {Q : α → sProp 𝕄} {k : (r.shape.Idx → Elt F e) → Prog (TpuEff nD τ sig (Elt F) Λ₀ .tc) α} :
    (ownsTc c (M.slice r hr) q V : sProp 𝕄)
      ⊢ iprop((ownsTc c (M.slice r hr) q V -∗ wp frame (wpE (defs₀ (F := F)) 𝒱₀ (c : Thread nD τ) none) Set.univ (k V) Q)
          -∗ wp frame (wpE (defs₀ (F := F)) 𝒱₀ (c : Thread nD τ) none) Set.univ (.op (.load M r.toLoadRect hl) k) Q) := by
  unfold ownsTc owns
  iintro ⟨%f, %hf, H⟩ Hk
  iapply (wp_load_rect 𝒱₀ (c : Thread nD τ) none Set.univ (m := M) (r := r) (Finset.Subset.refl _)) $$ H
  iintro H
  have hv : (M.access r).read (Elt F) f = V := hf
  rw [hv]
  iapply Hk
  iexists f
  isplitr; · ipureintro; exact hf
  iexact H

/-- A store of exactly a held part replaces the part's contents. -/
theorem step_store {cs : CoreSpace} {sh : Shape} {e : EltTy} {M : Memref sig .tc cs sh e} (r : Rect sh) (hr : ∀ a, r.stride a = 1)
    (w : r.shape.Idx → Elt F e) {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (ownsAny c (M.slice r hr) : sProp 𝕄)
      ⊢ iprop((ownsTc c (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold ownsAny ownsTc owns
  iintro ⟨%V, %f, %hf, H⟩ Hk
  iapply (wp_store 𝒱₀ (c : Thread nD τ) none Set.univ (m := M) (r := r) (Mk := Finset.univ) (f := f) (S := (M.slice r hr).view.set) (Finset.Subset.refl _)) $$ [H]
  · iexact H
  iintro H
  iapply Hk
  iexists ((M.access r).write (Elt F) f w Finset.univ)
  isplitr
  · ipureintro; exact View.read_write_univ _ _
  iexact H

/-- What is held at some contents is held at contents nothing is said about. -/
theorem owns_any {sp : Space} {sh : Shape} {e : EltTy} (M : Memref sig .tc sp sh e) (V : sh.Idx → Elt F e) :
    (ownsTc c M fullShare V : sProp 𝕄) ⊢ ownsAny c M := by
  unfold ownsAny
  iintro H
  iexists V
  iexact H

/-- A load whose value the program does not use. -/
theorem step_load_any {cs : CoreSpace} {sh : Shape} {e : EltTy} {M : Memref sig .tc cs sh e} (r : Rect sh) (hr : ∀ a, r.stride a = 1)
    {hl : M.view.LoadsAt r.toLoadRect} {α : Type} {Q : α → sProp 𝕄} {k : (r.shape.Idx → Elt F e) → Prog (TpuEff nD τ sig (Elt F) Λ₀ .tc) α} :
    (ownsAny c (M.slice r hr) : sProp 𝕄)
      ⊢ iprop((∀ V, ownsAny c (M.slice r hr) -∗ wp frame (wpE (defs₀ (F := F)) 𝒱₀ (c : Thread nD τ) none) Set.univ (k V) Q)
          -∗ wp frame (wpE (defs₀ (F := F)) 𝒱₀ (c : Thread nD τ) none) Set.univ (.op (.load M r.toLoadRect hl) k) Q) := by
  unfold ownsAny
  iintro ⟨%V, H⟩ Hk
  iapply (step_load_part c r hr fullShare V) $$ H
  iintro H
  iapply Hk
  iexists V
  iexact H

/-- The rectangle of everything. -/
theorem cover_all {s : Shape} {off : Fin s.rank → ℕ} (h : ∀ a, off a = 0) (inb : ∀ a, off a + s.size a ≤ s.size a) :
    (Finset.univ : Finset Unit).biUnion (fun _ => (Rect.unit off s.size inb).set) = Finset.univ := by
  ext i
  simp only [Finset.mem_biUnion, Finset.mem_univ, true_and, iff_true]
  exact ⟨(), mem_unit.mpr fun a => by rw [h a]; exact ⟨Nat.zero_le _, by have := (i a).isLt; omega⟩⟩

/-- Holding a memref is holding the rectangle of everything in it. -/
theorem whole_slice {sp : Space} {s : Shape} {e : EltTy} (M : Memref sig .tc sp s e) {off : Fin s.rank → ℕ} (h : ∀ a, off a = 0)
    (inb : ∀ a, off a + s.size a ≤ s.size a) (hr : ∀ a, (Rect.unit off s.size inb).stride a = 1) (q : PosShare TreeShare) (V : s.Idx → Elt F e) :
    (ownsTc c M q V : sProp 𝕄) ⊢ ownsTc c (M.slice (Rect.unit off s.size inb) hr) q V := by
  refine (owns_rects (c : Thread nD τ) M q (fun _ : Unit => Rect.unit off s.size inb) (fun _ => hr)
    (fun _ _ hne => absurd rfl hne) (cover_all h inb) V).trans (Entails.of_eq ?_)
  rw [show (Finset.univ : Finset Unit) = {()} from rfl, bigSep_singleton]
  exact congrArg _ (funext fun i => by rw [emb_all h])
/-- The slice that is the whole buffer is the buffer. -/
theorem slice_whole {sp : Space} {s : Shape} {e : EltTy} (M : Memref sig .tc sp s e) {off : Fin s.rank → ℕ} (h : ∀ a, off a = 0)
    (inb : ∀ a, off a + s.size a ≤ s.size a) (hr : ∀ a, (Rect.unit off s.size inb).stride a = 1) (q : PosShare TreeShare) (V : s.Idx → Elt F e) :
    (ownsTc c (M.slice (Rect.unit off s.size inb) hr) q V : sProp 𝕄) ⊢ ownsTc c M q V := by
  refine .trans (Entails.of_eq ?_) (owns_of_rects (c : Thread nD τ) M q (fun _ : Unit => Rect.unit off s.size inb) (fun _ => hr)
    (fun _ _ hne => absurd rfl hne) (cover_all h inb) V)
  rw [show (Finset.univ : Finset Unit) = {()} from rfl, bigSep_singleton]
  exact congrArg _ (funext fun i => by rw [emb_all h])

/-- A load of everything reads the contents. -/
theorem step_load_all {cs : CoreSpace} {sh : Shape} {e : EltTy} {M : Memref sig .tc cs sh e} {off : Fin sh.rank → ℕ} (h : ∀ a, off a = 0)
    (inb : ∀ a, off a + sh.size a ≤ sh.size a) {hl : M.view.LoadsAt (Rect.unit off sh.size inb).toLoadRect}
    (q : PosShare TreeShare) (V : sh.Idx → Elt F e) {α : Type} {Q : α → sProp 𝕄} {k : (sh.Idx → Elt F e) → Prog (TpuEff nD τ sig (Elt F) Λ₀ .tc) α} :
    (ownsTc c M q V : sProp 𝕄)
      ⊢ iprop((ownsTc c M q V -∗ wp frame (wpE (defs₀ (F := F)) 𝒱₀ (c : Thread nD τ) none) Set.univ (k V) Q)
          -∗ wp frame (wpE (defs₀ (F := F)) 𝒱₀ (c : Thread nD τ) none) Set.univ (.op (.load M (Rect.unit off sh.size inb).toLoadRect hl) k) Q) := by
  have e : (fun i => V ((Rect.unit off sh.size inb).emb i)) = V := funext fun i => by rw [emb_all h]
  have := step_load c (Rect.unit off sh.size inb) (hl := hl) q V V e (Q := Q) (k := k)
  exact this

/-- A store over everything replaces the contents. -/
theorem step_store_all {cs : CoreSpace} {sh : Shape} {e : EltTy} {M : Memref sig .tc cs sh e} {off : Fin sh.rank → ℕ} (h : ∀ a, off a = 0)
    (inb : ∀ a, off a + sh.size a ≤ sh.size a) (w : sh.Idx → Elt F e) {hx : (M.access (Rect.unit off sh.size inb)).Stores Finset.univ}
    {hm : (Finset.univ : Finset (Rect.unit off sh.size inb).shape.Idx) = Finset.univ ∨ ∀ a, (Rect.unit off sh.size inb).stride a = 1}
    {α : Type} {Q : α → sProp 𝕄} {k : PUnit → Prog (TpuEff nD τ sig (Elt F) Λ₀ .tc) α} :
    (ownsAny c M : sProp 𝕄)
      ⊢ iprop((ownsTc c M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off sh.size inb) w Finset.univ hx hm) k) Q) := by
  unfold ownsAny
  iintro ⟨%V, H⟩ Hk
  ihave H := (whole_slice c M h inb (fun _ => rfl) fullShare V) $$ H
  iapply (step_store c (M := M) (Rect.unit off sh.size inb) (fun _ => rfl) w) $$ [H]
  · unfold ownsAny; iexists V; iexact H
  iintro H
  iapply Hk
  iapply (slice_whole c M h inb (fun _ => rfl) fullShare w)
  iexact H

/-- A cast forgets nothing. -/
theorem cast_back {α β : Type} (h : α = β) {a b : α} (e : cast h a = cast h b) : a = b := by subst h; exact e

/-- The two halves of a share of a memref, at the same contents, make the share. -/
theorem owns_unhalve {sp : Space} {sh : Shape} {e : EltTy} (M : Memref sig .tc sp sh e) (q : PosShare TreeShare) (V : sh.Idx → Elt F e) :
    iprop(ownsTc c M q.left V ∗ ownsTc c M q.right V) ⊢ (ownsTc c M q V : sProp 𝕄) := by
  unfold ownsTc owns
  iintro ⟨⟨%f, %hf, H⟩, ⟨%g, %hg, H'⟩⟩
  have hfg : ∀ i ∈ M.view.set, g i = f i := fun i hi => by
    obtain ⟨x, -, rfl⟩ := Finset.mem_map.mp hi
    have e : M.view.read (Elt F) g x = M.view.read (Elt F) f x := by rw [hg, hf]
    rw [View.read_apply, View.read_apply] at e
    exact cast_back _ e
  ihave H' := (Entails.of_eq (pointsTo_congr hfg)) $$ H'
  iexists f
  isplitr; · ipureintro; exact hf
  iapply (pointsTo_share (PosShare.mem_left_op_right q)).2
  isplitl [H]; · iexact H
  iexact H'

end Steps

end Cert.KernelIdeal.Scatter
-- ==== Proof.BodyA.lean ====
module

public import proofs.«01_k».proof.Proof.Steps

/-! The kernel's text on one device, part by part: from the first signal to the last chunk sent along the
    last axis. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- A part of the kernel's text on the buffers and semaphores the launch gives it. -/
abbrev onBufs {β : Sort _}
    (f : (a0 : Memref sig .tc .hbm S512x512 .f32) → a0.IsWhole → (a1 : Memref sig .tc .hbm S512x2048 .f32) → a1.IsWhole
      → (a2 : Memref sig .tc .hbm S256x2048 .f32) → a2.IsWhole → (a3 : Memref sig .tc .vmem S512x512 .f32) → a3.IsWhole
      → (a4 : Memref sig .tc .vmem S512x2048 .f32) → a4.IsWhole → (a5 : Memref sig .tc .vmem S256x2048 .f32) → a5.IsWhole
      → (a6 : Memref sig .tc .vmem S8x16x2048 .bf16) → a6.IsWhole → (a7 : Memref sig .tc .vmem S4x16x2048 .bf16) → a7.IsWhole
      → (a8 : Memref sig .tc .vmem S4x16x2048 .bf16) → a8.IsWhole → (a9 : Memref sig .tc .vmem S4x16x2048 .bf16) → a9.IsWhole
      → (a10 : Memref sig .tc .vmem S4x16x2048 .bf16) → a10.IsWhole → DmaSems sig S3 → DmaSems sig S4 → DmaSems sig S4 → DmaSems sig S4
      → DmaSems sig S4 → DmaSems sig S4 → DmaSems sig S4 → DmaSems sig S4 → DmaSems sig S4 → DmaSems sig S4 → β) : β :=
  f aM (Memref.isWhole_whole _) bM (Memref.isWhole_whole _) rM (Memref.isWhole_whole _) xM (Memref.isWhole_whole _)
    dM (Memref.isWhole_whole _) oM (Memref.isWhole_whole _) kM (Memref.isWhole_whole _) zM (Memref.isWhole_whole _)
    pM (Memref.isWhole_whole _) qM (Memref.isWhole_whole _) gM (Memref.isWhole_whole _)
    cc0_scratch8 cc0_scratch9 cc0_scratch10 cc0_scratch11 cc0_scratch12 cc0_scratch13 cc0_scratch14 cc0_scratch15 cc0_scratch16 cc0_scratch17

/-- Running a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Parts

variable (m : (ℓ : Loc nD τ sig) → Buf (Elt F) ℓ) (K : Dev nD × Option (Fin 39) → ℕ) (c : Dev nD)

/-- The signals to the neighbours along the first and the middle axis, and the copies in. -/
theorem part2 (w₁ w₂ w₃ w₄ w₅ : BitVec 32) (Q : BitVec 32 → sProp 𝕄) :
    (recs m K : sProp 𝕄) ⊢ iprop(ow c (dues.drop 1) -∗ dutyTok ER (bar (xp c)) 0 1 -∗ barPay (xp c) 1 -∗ dutyTok ER (bar (yp c)) 0 2 -∗ barPay (yp c) 2
      -∗ cpy c .inX -∗ ownsTc c aM fullShare (xin m c) -∗ ownsAny c xM
      -∗ cpy c (.inD 0) -∗ ownsTc c (halfM bM 0) fullShare (yhalf m c 0) -∗ ownsAny c (halfM dM 0)
      -∗ cpy c (.inD 1) -∗ ownsTc c (halfM bM 1) fullShare (yhalf m c 1) -∗ ownsAny c (halfM dM 1)
      -∗ (∀ w, ow c (dues.drop 3) -∗ semVal (cell c .inX) 0 -∗ pay m c .inX -∗ pend c (.inD 0) -∗ pend c (.inD 1) -∗ Q w)
      -∗ run c (onBufs (k0_part2 (F := F)) c w₁ w₂ w₃ w₄ (SemArray.scalar (sig.barrier 0 rfl)) w₅) Q) := by
  simp only [run, onBufs, k0_part2_eq_skeleton]
  unfold k0_part2_skel
  simp only [semSignalWord, Prog.lift, Prog.bind_op, Prog.bind_ret, Prog.pure_eq_ret]
  iintro #HR HO Ht1 Hb1 Ht2 Hb2 Hcx Ha Hx Hc0 Hb0 Hd0 Hc1 Hb1' Hd1 Hk
  iapply (step_signal m K c 1 xp (dues.drop 1) (dues.drop 2) rfl (Fin.ext (k0_dev2_eq c)) rfl) $$ HR HO Ht1 Hb1
  iintro HO
  iapply (step_signal m K c 2 yp (dues.drop 2) (dues.drop 3) rfl (Fin.ext (k0_dev3_eq c)) rfl) $$ HR HO Ht2 Hb2
  iintro HO
  iapply (step_copy m K c .inX (src := aM) (dst := xM) rfl rfl fullShare (xin m c) .rfl) $$ HR Hcx Ha Hx
  iintro Hpx
  iapply (step_copy m K c (.inD 0) (src := halfM bM 0) (dst := halfM dM 0) rfl rfl fullShare (yhalf m c 0) .rfl) $$ HR Hc0 Hb0 Hd0
  iintro Hp0
  iapply (step_copy m K c (.inD 1) (src := halfM bM 1) (dst := halfM dM 1) rfl rfl fullShare (yhalf m c 1) .rfl) $$ HR Hc1 Hb1' Hd1
  iintro Hp1
  iapply (step_wait m K c .inX (dues.drop 3) (by decide) (src := aM) (dst := xM) rfl rfl) $$ HR HO Hpx
  iintro Hz Hpx HO
  rw [wp_ret]
  imodintro
  iapply Hk $$ HO Hz Hpx Hp0 Hp1

/-- The packed block is filled, half by half, and the barrier is passed. -/
theorem part3 (w₁ w₂ w₃ : BitVec 32) (Q : BitVec 32 → sProp 𝕄) :
    (recs m K : sProp 𝕄) ⊢ iprop(ow c (dues.drop 3) -∗ pend c (.inD 0) -∗ pend c (.inD 1) -∗ ownsTc c xM fullShare (xin m c)
      -∗ ownsAny c (kM.slice (khalfR 0) (fun _ => rfl)) -∗ ownsAny c (kM.slice (khalfR 1) (fun _ => rfl))
      -∗ cred (tallyAt (bar c) () 3) -∗ atPos ER (bar c) 0 ∅ 0
      -∗ (∀ w, ow c (dues.drop 3) -∗ semVal (cell c (.inD 0)) 0 -∗ semVal (cell c (.inD 1)) 0 -∗ semVal (bar c) 0
          -∗ ownsTc c xM fullShare (xin m c)
          -∗ ownsTc c (halfM dM 0) fullShare (yhalf m c 0) -∗ ownsTc c (halfM dM 1) fullShare (yhalf m c 1)
          -∗ ownsTc c (halfM bM 0) fullShare (yhalf m c 0) -∗ ownsTc c (halfM bM 1) fullShare (yhalf m c 1)
          -∗ ownsTc c (kM.slice (khalfR 0) (fun _ => rfl)) fullShare (packHalf m c 0)
          -∗ ownsTc c (kM.slice (khalfR 1) (fun _ => rfl)) fullShare (packHalf m c 1)
          -∗ (barPay c 0 ∗ barPay c 1 ∗ barPay c 2) -∗ Q w)
      -∗ run c (onBufs (k0_part3 (F := F)) c w₁ w₂ (SemArray.scalar (sig.barrier 0 rfl)) w₃) Q) := by
  simp only [run, onBufs, k0_part3_eq_skeleton]
  unfold k0_part3_skel
  simp only [semWaitWord, Prog.lift, Prog.bind_op, Prog.bind_ret, Prog.pure_eq_ret]
  iintro #HR HO Hp0 Hp1 Hx Hk0 Hk1 Hcr Hat Hk
  iapply (step_wait m K c (.inD 0) (dues.drop 3) (by decide) (dst := halfM dM 0) rfl rfl) $$ HR HO Hp0
  dsimp only [pay]
  iintro Hz0 ⟨Hd0, Hb0⟩ HO
  iapply (step_load c (M := xM) (Rect.unit (s := S512x512) (k0_off1 c) S512x128.size (k0_off1_inb c)) fullShare (xin m c) (xpack m c) rfl) $$ Hx
  iintro Hx
  iapply (step_load_part c (M := dM) (halfR 0) (fun _ => rfl) fullShare (yhalf m c 0)) $$ Hd0
  iintro Hd0
  iapply (step_load_any c (M := kM) (khalfR 0) (fun _ => rfl)) $$ Hk0
  iintro %V0 Hk0
  iapply (step_store c (M := kM) (khalfR 0) (fun _ => rfl) (packHalf m c 0)) $$ Hk0
  iintro Hk0
  iapply (step_wait m K c (.inD 1) (dues.drop 3) (by decide) (dst := halfM dM 1) rfl rfl) $$ HR HO Hp1
  dsimp only [pay]
  iintro Hz1 ⟨Hd1, Hb1⟩ HO
  iapply (step_load c (M := xM) (Rect.unit (s := S512x512) (k0_off1 c) S512x128.size (k0_off1_inb c)) fullShare (xin m c) (xpack m c) rfl) $$ Hx
  iintro Hx
  iapply (step_load_part c (M := dM) (halfR 1) (fun _ => rfl) fullShare (yhalf m c 1)) $$ Hd1
  iintro Hd1
  iapply (step_load_any c (M := kM) (khalfR 1) (fun _ => rfl)) $$ Hk1
  iintro %V1 Hk1
  iapply (step_store c (M := kM) (khalfR 1) (fun _ => rfl) (packHalf m c 1)) $$ Hk1
  iintro Hk1
  iapply (step_barrier m K c (dues.drop 3) (by decide)) $$ HR HO Hcr Hat
  iintro Hz Hb HO
  rw [wp_ret]
  imodintro
  iapply Hk $$ HO Hz0 Hz1 Hz Hx Hd0 Hd1 Hb0 Hb1 Hk0 Hk1 Hb

/-- The first two chunks leave along the last axis. -/
theorem part4 (w₁ w₂ w₃ w₄ : BitVec 32) (Q : BitVec 32 → sProp 𝕄) :
    (recs m K : sProp 𝕄) ⊢ iprop(ow c (dues.drop 3)
      -∗ snd c (zp c) (.zs 0) (.zr 0) -∗ ownsTc c (sentM c 0) fullShare (chunkOf (zin m (zp c)) 0) -∗ ownsAny (zp c) (chunkM zM 0)
      -∗ snd c (zp c) (.zs 1) (.zr 1) -∗ ownsTc c (sentM c 1) fullShare (chunkOf (zin m (zp c)) 1) -∗ ownsAny (zp c) (chunkM zM 1)
      -∗ (∀ w, ow c (dues.drop 5) -∗ pend c (.zs 0) -∗ pend c (.zs 1) -∗ Q w)
      -∗ run c (onBufs (k0_part4 (F := F)) c w₁ w₂ w₃ w₄) Q) := by
  simp only [run, onBufs, k0_part4_eq_skeleton]
  unfold k0_part4_skel
  simp only [Prog.lift, Prog.bind_op, Prog.bind_ret, Prog.pure_eq_ret]
  iintro #HR HO Ht0 Hs0 Hd0 Ht1 Hs1 Hd1 Hk
  iapply (step_send m K c zp (dues.drop 3) (dues.drop 4) (.zs 0) (.zr 0) rfl (Fin.ext (k0_dev4_eq c)) rfl (src := sentM c 0) (dst := chunkM zM 0) rfl rfl rfl rfl
    fullShare (chunkOf (zin m (zp c)) 0) .rfl .rfl) $$ HR HO Ht0 Hs0 Hd0
  iintro Hp0 HO
  iapply (step_send m K c zp (dues.drop 4) (dues.drop 5) (.zs 1) (.zr 1) rfl (Fin.ext (k0_dev5_eq c)) rfl (src := sentM c 1) (dst := chunkM zM 1) rfl rfl rfl rfl
    fullShare (chunkOf (zin m (zp c)) 1) .rfl .rfl) $$ HR HO Ht1 Hs1 Hd1
  iintro Hp1 HO
  rw [wp_ret]
  imodintro
  iapply Hk $$ HO Hp0 Hp1

/-- The other two chunks leave along the last axis, and the operands of the device's own product are read. -/
theorem part5 (w₁ w₂ w₃ w₄ w₅ : BitVec 32) (Q : (Σ' (_ : Vec F S512x256 .f32) (_ : Vec F S512x2048 .f32), FVec F S256x2048 .f32) → sProp 𝕄) :
    (recs m K : sProp 𝕄) ⊢ iprop(ow c (dues.drop 5)
      -∗ snd c (zp c) (.zs 2) (.zr 2) -∗ ownsTc c (sentM c 2) fullShare (chunkOf (zin m (zp c)) 2) -∗ ownsAny (zp c) (chunkM zM 2)
      -∗ snd c (zp c) (.zs 3) (.zr 3) -∗ ownsTc c (sentM c 3) fullShare (chunkOf (zin m (zp c)) 3) -∗ ownsAny (zp c) (chunkM zM 3)
      -∗ ownsTc c xM fullShare (xin m c) -∗ ownsTc c dM fullShare (yin m c)
      -∗ (ow c (dues.drop 7) -∗ pend c (.zs 2) -∗ pend c (.zs 3) -∗ ownsTc c xM fullShare (xin m c) -∗ ownsTc c dM fullShare (yin m c)
          -∗ Q ⟨xkeep m c, yin m c, constant S256x2048 .f32 0x00000000#32⟩)
      -∗ run c (onBufs (k0_part5 (F := F)) c w₁ w₂ w₃ w₄ w₅) Q) := by
  simp only [run, onBufs, k0_part5_eq_skeleton]
  unfold k0_part5_skel
  simp only [Prog.lift, Prog.bind_op, Prog.bind_ret, Prog.pure_eq_ret]
  iintro #HR HO Ht0 Hs0 Hd0 Ht1 Hs1 Hd1 Hx Hd Hk
  iapply (step_send m K c zp (dues.drop 5) (dues.drop 6) (.zs 2) (.zr 2) rfl (Fin.ext (k0_dev6_eq c)) rfl (src := sentM c 2) (dst := chunkM zM 2) rfl rfl rfl rfl
    fullShare (chunkOf (zin m (zp c)) 2) .rfl .rfl) $$ HR HO Ht0 Hs0 Hd0
  iintro Hp0 HO
  iapply (step_send m K c zp (dues.drop 6) (dues.drop 7) (.zs 3) (.zr 3) rfl (Fin.ext (k0_dev7_eq c)) rfl (src := sentM c 3) (dst := chunkM zM 3) rfl rfl rfl rfl
    fullShare (chunkOf (zin m (zp c)) 3) .rfl .rfl) $$ HR HO Ht1 Hs1 Hd1
  iintro Hp1 HO
  iapply (step_load c (M := xM) (Rect.unit (s := S512x512) (k0_off3 c) S512x256.size (k0_off3_inb c)) fullShare (xin m c) (xkeep m c) rfl) $$ Hx
  iintro Hx
  iapply (step_load_all c (M := dM) (off := ![0, 0]) (by decide) inb_S512x2048_S512x2048_0_0 fullShare (yin m c)) $$ Hd
  iintro Hd
  rw [wp_ret]
  imodintro
  iapply Hk $$ HO Hp0 Hp1 Hx Hd

end Parts

end Cert.KernelIdeal.Scatter
-- ==== Proof.BodyB.lean ====
module

public import proofs.«01_k».proof.Proof.BodyA

/-! The kernel's text on one device, part by part: from the device's own product to the end. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- All that goes with four channels. -/
def four (P : Fin 4 → sProp 𝕄) : sProp 𝕄 := iprop(P 0 ∗ P 1 ∗ P 2 ∗ P 3)

section Parts

variable (m : (ℓ : Loc nD τ sig) → Buf (Elt F) ℓ) (K : Dev nD × Option (Fin 39) → ℕ) (c : Dev nD)

/-! ## What the forwards land -/

/-- A chunk forwarded along the first axis is what its landing hands the neighbour. -/
theorem to_pr (k : Fin 4) : (ownsTc (xp c) (chunkM pM k) fullShare (chunkOf (zin m c) k) : sProp 𝕄) ⊢ pay m (xp c) (.pr k) := by
  simp only [pay, xp_xp]; exact .rfl
/-- A chunk forwarded along the middle axis is what its landing hands the neighbour. -/
theorem to_qr (k : Fin 4) : (ownsTc (yp c) (chunkM qM k) fullShare (chunkOf (zin m c) k) : sProp 𝕄) ⊢ pay m (yp c) (.qr k) := by
  simp only [pay, yp_yp]; exact .rfl
/-- A chunk received along the first axis and forwarded along the middle one is what its landing hands the neighbour. -/
theorem to_gr_y (k : Fin 4) : (ownsTc (yp c) (chunkM gM k) fullShare (chunkOf (zin m (xp c)) k) : sProp 𝕄) ⊢ pay m (yp c) (.gr k) := by
  simp only [pay, yp_yp]; exact .rfl
/-- A chunk received along the middle axis and forwarded along the first one is what its landing hands the neighbour. -/
theorem to_gr_x (k : Fin 4) : (ownsTc (xp c) (chunkM gM k) fullShare (chunkOf (zin m (yp c)) k) : sProp 𝕄) ⊢ pay m (xp c) (.gr k) := by
  simp only [pay, yp_xp, xp_xp]; exact .rfl

/-! ## The quarters of the result's staging buffer -/

/-- A load of a quarter. -/
theorem load_quart (j : Fin 4) {off : Fin 2 → ℕ} (h : off = qoff c j) (inb : ∀ a, off a + S64x2048.size a ≤ S256x2048.size a)
    {hl : (oM : Memref sig .tc .vmem S256x2048 .f32).view.LoadsAt (Rect.unit (s := S256x2048) off S64x2048.size inb).toLoadRect}
    (V : (quartR c j).shape.Idx → Elt F .f32) {α : Type} {Q : α → sProp 𝕄}
    {k : ((Rect.unit (s := S256x2048) off S64x2048.size inb).shape.Idx → Elt F .f32) → Prog (TpuEff nD τ sig (Elt F) Λ₀ .tc) α} :
    (ownsTc c (quartM oM c j) fullShare V : sProp 𝕄) ⊢ iprop((ownsTc c (quartM oM c j) fullShare V -∗ wp frame (wpE (defs₀ (F := F)) 𝒱₀ (c : Thread nD τ) none) Set.univ (k V) Q)
      -∗ wp frame (wpE (defs₀ (F := F)) 𝒱₀ (c : Thread nD τ) none) Set.univ (.op (.load oM (Rect.unit (s := S256x2048) off S64x2048.size inb).toLoadRect hl) k) Q) := by
  subst h
  exact step_load_part c (M := oM) (quartR c j) (fun _ => rfl) fullShare V

/-- A store over a quarter. -/
theorem store_quart (j : Fin 4) {off : Fin 2 → ℕ} (h : off = qoff c j) (inb : ∀ a, off a + S64x2048.size a ≤ S256x2048.size a)
    (V w : (quartR c j).shape.Idx → Elt F .f32) {hx : ((oM : Memref sig .tc .vmem S256x2048 .f32).access (Rect.unit (s := S256x2048) off S64x2048.size inb)).Stores Finset.univ}
    {hm : (Finset.univ : Finset (Rect.unit (s := S256x2048) off S64x2048.size inb).shape.Idx) = Finset.univ
      ∨ ∀ a, (Rect.unit (s := S256x2048) off S64x2048.size inb).stride a = 1}
    {α : Type} {Q : α → sProp 𝕄} {k : PUnit → Prog (TpuEff nD τ sig (Elt F) Λ₀ .tc) α} :
    (ownsTc c (quartM oM c j) fullShare V : sProp 𝕄) ⊢ iprop((ownsTc c (quartM oM c j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S256x2048) off S64x2048.size inb) w Finset.univ hx hm) k) Q) := by
  subst h
  exact (owns_any c (quartM oM c j) V).trans (step_store c (M := oM) (quartR c j) (fun _ => rfl) w)

/-- The rows that the first addition reads and writes are the first quarter that is copied out. -/
theorem off4_q : k0_off4 c = qoff c 0 := (k0_off4_eq c).trans (k0_off5_eq c).symm
/-- The rows that the second addition reads and writes are the second quarter that is copied out. -/
theorem off6_q : k0_off6 c = qoff c 1 := (k0_off6_eq c).trans (k0_off7_eq c).symm
/-- The rows that the third addition reads and writes are the third quarter that is copied out. -/
theorem off8_q : k0_off8 c = qoff c 2 := (k0_off8_eq c).trans (k0_off9_eq c).symm
/-- The rows that the fourth addition reads and writes are the fourth quarter that is copied out. -/
theorem off10_q : k0_off10 c = qoff c 3 := (k0_off10_eq c).trans (k0_off11_eq c).symm

/-- The device's own product on the quarter it finishes `j`-th. -/
abbrev ownQ (j : Fin 4) : FVec F S64x2048 .f32 := fun i => ownProd m c ((quartR c j).emb i)

/-! ## The parts -/

/-- The device's own product is stored; the first chunk arrives and is forwarded along the first axis. -/
theorem part6 (w₁ w₂ w₃ w₄ w₅ : BitVec 32) (Q : PUnit → sProp 𝕄) :
    (recs m K : sProp 𝕄) ⊢ iprop(ow c (dues.drop 7) -∗ ownsAny c oM -∗ pend c (.zr 0) -∗ snd c (xp c) (.ps 0) (.pr 0) -∗ ownsAny (xp c) (chunkM pM 0)
      -∗ (ow c (dues.drop 8) -∗ ownsTc c oM fullShare (ownProd m c) -∗ semVal (cell c (.zr 0)) 0 -∗ pend c (.ps 0)
          -∗ ownsTc c (chunkM zM 0) kept1 (chunkOf (zin m c) 0) -∗ Q ⟨⟩)
      -∗ run c (onBufs (k0_part6 (F := F)) c w₁ w₂ w₃ w₄ w₅ (xkeep m c) (yin m c) (constant S256x2048 .f32 0x00000000#32)) Q) := by
  simp only [run, onBufs, k0_part6_eq_skeleton]
  unfold k0_part6_skel
  simp only [Prog.lift, Prog.bind_op, Prog.bind_ret, Prog.pure_eq_ret]
  iintro #HR HO Ho Hp Ht Hd Hk
  ihave Ho := (show (ownsAny c oM : sProp 𝕄) ⊢ iprop(∃ V, ownsTc c oM fullShare V) from .rfl) $$ Ho
  icases Ho with ⟨%Vo, Ho⟩
  iapply (step_load_all c (M := oM) (off := ![0, 0]) (by decide) inb_S256x2048_S256x2048_0_0 fullShare Vo) $$ Ho
  iintro Ho
  ihave Ho := (owns_any c oM Vo) $$ Ho
  iapply (step_store_all c (M := oM) (off := ![0, 0]) (by decide) inb_S256x2048_S256x2048_0_0 (ownProd m c)) $$ Ho
  iintro Ho
  iapply (step_wait m K c (.zr 0) (dues.drop 7) (by decide) (dst := chunkM zM 0) rfl rfl) $$ HR HO Hp
  dsimp only [pay]
  iintro Hz Hc HO
  ihave Hc := (owns_halve c fullShare (chunkM zM 0) (chunkOf (zin m c) 0)) $$ Hc
  icases Hc with ⟨Hl, Hr⟩
  iapply (step_send m K c xp (dues.drop 7) (dues.drop 8) (.ps 0) (.pr 0) rfl (Fin.ext (k0_dev8_eq c)) rfl (src := chunkM zM 0) (dst := chunkM pM 0) rfl rfl rfl rfl
    lent1 (chunkOf (zin m c) 0) .rfl (to_pr m c 0)) $$ HR HO Ht Hl Hd
  iintro Hp HO
  rw [wp_ret]
  imodintro
  iapply Hk $$ HO Ho Hz Hp Hr

/-- The first chunk is forwarded along the middle axis; the second arrives. -/
theorem part7 (w₁ w₂ w₃ w₄ w₅ w₆ : BitVec 32) (Q : BitVec 32 → sProp 𝕄) :
    (recs m K : sProp 𝕄) ⊢ iprop(ow c (dues.drop 8) -∗ snd c (yp c) (.qs 0) (.qr 0) -∗ ownsTc c (chunkM zM 0) kept1 (chunkOf (zin m c) 0)
      -∗ ownsAny (yp c) (chunkM qM 0) -∗ pend c (.zr 1)
      -∗ (∀ w, ow c (dues.drop 9) -∗ pend c (.qs 0) -∗ ownsTc c (chunkM zM 0) kept2 (chunkOf (zin m c) 0)
          -∗ semVal (cell c (.zr 1)) 0 -∗ ownsTc c (chunkM zM 1) fullShare (chunkOf (zin m c) 1) -∗ Q w)
      -∗ run c (onBufs (k0_part7 (F := F)) c w₁ w₂ w₃ w₄ w₅ w₆) Q) := by
  simp only [run, onBufs, k0_part7_eq_skeleton]
  unfold k0_part7_skel
  simp only [Prog.lift, Prog.bind_op, Prog.bind_ret, Prog.pure_eq_ret]
  iintro #HR HO Ht Hc Hd Hp Hk
  ihave Hc := (owns_halve c kept1 (chunkM zM 0) (chunkOf (zin m c) 0)) $$ Hc
  icases Hc with ⟨Hl, Hr⟩
  iapply (step_send m K c yp (dues.drop 8) (dues.drop 9) (.qs 0) (.qr 0) rfl (Fin.ext (k0_dev9_eq c)) rfl (src := chunkM zM 0) (dst := chunkM qM 0) rfl rfl rfl rfl
    lent2 (chunkOf (zin m c) 0) .rfl (to_qr m c 0)) $$ HR HO Ht Hl Hd
  iintro Hq HO
  iapply (step_wait m K c (.zr 1) (dues.drop 9) (by decide) (dst := chunkM zM 1) rfl rfl) $$ HR HO Hp
  dsimp only [pay]
  iintro Hz Hc HO
  rw [wp_ret]
  imodintro
  iapply Hk $$ HO Hq Hr Hz Hc

/-- The second chunk is forwarded along both axes. -/
theorem part8 (w₁ w₂ w₃ w₄ w₅ w₆ : BitVec 32) (Q : PUnit → sProp 𝕄) :
    (recs m K : sProp 𝕄) ⊢ iprop(ow c (dues.drop 9) -∗ ownsTc c (chunkM zM 1) fullShare (chunkOf (zin m c) 1)
      -∗ snd c (xp c) (.ps 1) (.pr 1) -∗ ownsAny (xp c) (chunkM pM 1) -∗ snd c (yp c) (.qs 1) (.qr 1) -∗ ownsAny (yp c) (chunkM qM 1)
      -∗ (ow c (dues.drop 11) -∗ pend c (.ps 1) -∗ pend c (.qs 1) -∗ ownsTc c (chunkM zM 1) kept2 (chunkOf (zin m c) 1) -∗ Q ⟨⟩)
      -∗ run c (onBufs (k0_part8 (F := F)) c w₁ w₂ w₃ w₄ w₅ w₆) Q) := by
  simp only [run, onBufs, k0_part8_eq_skeleton]
  unfold k0_part8_skel
  simp only [Prog.lift, Prog.bind_op, Prog.bind_ret, Prog.pure_eq_ret]
  iintro #HR HO Hc Ht Hd Ht' Hd' Hk
  ihave Hc := (owns_halve c fullShare (chunkM zM 1) (chunkOf (zin m c) 1)) $$ Hc
  icases Hc with ⟨Hl, Hr⟩
  iapply (step_send m K c xp (dues.drop 9) (dues.drop 10) (.ps 1) (.pr 1) rfl (Fin.ext (k0_dev10_eq c)) rfl (src := chunkM zM 1) (dst := chunkM pM 1) rfl rfl rfl rfl
    lent1 (chunkOf (zin m c) 1) .rfl (to_pr m c 1)) $$ HR HO Ht Hl Hd
  iintro Hp HO
  ihave Hc := (owns_halve c kept1 (chunkM zM 1) (chunkOf (zin m c) 1)) $$ Hr
  icases Hc with ⟨Hl, Hr⟩
  iapply (step_send m K c yp (dues.drop 10) (dues.drop 11) (.qs 1) (.qr 1) rfl (Fin.ext (k0_dev11_eq c)) rfl (src := chunkM zM 1) (dst := chunkM qM 1) rfl rfl rfl rfl
    lent2 (chunkOf (zin m c) 1) .rfl (to_qr m c 1)) $$ HR HO Ht' Hl Hd'
  iintro Hq HO
  rw [wp_ret]
  imodintro
  iapply Hk $$ HO Hp Hq Hr

/-- The third chunk arrives and is forwarded along the first axis. -/
theorem part9 (w₁ w₂ w₃ w₄ w₅ : BitVec 32) (Q : PUnit → sProp 𝕄) :
    (recs m K : sProp 𝕄) ⊢ iprop(ow c (dues.drop 11) -∗ pend c (.zr 2) -∗ snd c (xp c) (.ps 2) (.pr 2) -∗ ownsAny (xp c) (chunkM pM 2)
      -∗ (ow c (dues.drop 12) -∗ semVal (cell c (.zr 2)) 0 -∗ pend c (.ps 2) -∗ ownsTc c (chunkM zM 2) kept1 (chunkOf (zin m c) 2) -∗ Q ⟨⟩)
      -∗ run c (onBufs (k0_part9 (F := F)) c w₁ w₂ w₃ w₄ w₅) Q) := by
  simp only [run, onBufs, k0_part9_eq_skeleton]
  unfold k0_part9_skel
  simp only [Prog.lift, Prog.bind_op, Prog.bind_ret, Prog.pure_eq_ret]
  iintro #HR HO Hp Ht Hd Hk
  iapply (step_wait m K c (.zr 2) (dues.drop 11) (by decide) (dst := chunkM zM 2) rfl rfl) $$ HR HO Hp
  dsimp only [pay]
  iintro Hz Hc HO
  ihave Hc := (owns_halve c fullShare (chunkM zM 2) (chunkOf (zin m c) 2)) $$ Hc
  icases Hc with ⟨Hl, Hr⟩
  iapply (step_send m K c xp (dues.drop 11) (dues.drop 12) (.ps 2) (.pr 2) rfl (Fin.ext (k0_dev12_eq c)) rfl (src := chunkM zM 2) (dst := chunkM pM 2) rfl rfl rfl rfl
    lent1 (chunkOf (zin m c) 2) .rfl (to_pr m c 2)) $$ HR HO Ht Hl Hd
  iintro Hp HO
  rw [wp_ret]
  imodintro
  iapply Hk $$ HO Hz Hp Hr

/-- The third chunk is forwarded along the middle axis; the fourth arrives and is forwarded along the first. -/
theorem part10 (w₁ w₂ w₃ w₄ w₅ : BitVec 32) (Q : BitVec 32 → sProp 𝕄) :
    (recs m K : sProp 𝕄) ⊢ iprop(ow c (dues.drop 12) -∗ snd c (yp c) (.qs 2) (.qr 2) -∗ ownsTc c (chunkM zM 2) kept1 (chunkOf (zin m c) 2)
      -∗ ownsAny (yp c) (chunkM qM 2) -∗ pend c (.zr 3) -∗ snd c (xp c) (.ps 3) (.pr 3) -∗ ownsAny (xp c) (chunkM pM 3)
      -∗ (∀ w, ow c (dues.drop 14) -∗ pend c (.qs 2) -∗ ownsTc c (chunkM zM 2) kept2 (chunkOf (zin m c) 2)
          -∗ semVal (cell c (.zr 3)) 0 -∗ pend c (.ps 3) -∗ ownsTc c (chunkM zM 3) kept1 (chunkOf (zin m c) 3) -∗ Q w)
      -∗ run c (onBufs (k0_part10 (F := F)) c w₁ w₂ w₃ w₄ w₅) Q) := by
  simp only [run, onBufs, k0_part10_eq_skeleton]
  unfold k0_part10_skel
  simp only [Prog.lift, Prog.bind_op, Prog.bind_ret, Prog.pure_eq_ret]
  iintro #HR HO Ht Hc Hd Hp Ht' Hd' Hk
  ihave Hc := (owns_halve c kept1 (chunkM zM 2) (chunkOf (zin m c) 2)) $$ Hc
  icases Hc with ⟨Hl, Hr⟩
  iapply (step_send m K c yp (dues.drop 12) (dues.drop 13) (.qs 2) (.qr 2) rfl (Fin.ext (k0_dev13_eq c)) rfl (src := chunkM zM 2) (dst := chunkM qM 2) rfl rfl rfl rfl
    lent2 (chunkOf (zin m c) 2) .rfl (to_qr m c 2)) $$ HR HO Ht Hl Hd
  iintro Hq HO
  iapply (step_wait m K c (.zr 3) (dues.drop 13) (by decide) (dst := chunkM zM 3) rfl rfl) $$ HR HO Hp
  dsimp only [pay]
  iintro Hz Hc HO
  ihave Hc := (owns_halve c fullShare (chunkM zM 3) (chunkOf (zin m c) 3)) $$ Hc
  icases Hc with ⟨Hl, Hr'⟩
  iapply (step_send m K c xp (dues.drop 13) (dues.drop 14) (.ps 3) (.pr 3) rfl (Fin.ext (k0_dev14_eq c)) rfl (src := chunkM zM 3) (dst := chunkM pM 3) rfl rfl rfl rfl
    lent1 (chunkOf (zin m c) 3) .rfl (to_pr m c 3)) $$ HR HO Ht' Hl Hd'
  iintro Hp HO
  rw [wp_ret]
  imodintro
  iapply Hk $$ HO Hq Hr Hz Hp Hr'

/-- The fourth chunk is forwarded along the middle axis; the first quarter is finished and its copy out started. -/
theorem part11 (w₁ w₂ w₃ w₄ w₅ : BitVec 32) (Q : (Σ' (_ : BitVec 32), BitVec 32) → sProp 𝕄) :
    (recs m K : sProp 𝕄) ⊢ iprop(ow c (dues.drop 14) -∗ snd c (yp c) (.qs 3) (.qr 3) -∗ ownsTc c (chunkM zM 3) kept1 (chunkOf (zin m c) 3)
      -∗ ownsAny (yp c) (chunkM qM 3)
      -∗ ownsTc c (chunkM zM 0) kept2 (chunkOf (zin m c) 0) -∗ ownsTc c (chunkM zM 1) kept2 (chunkOf (zin m c) 1)
      -∗ ownsTc c (chunkM zM 2) kept2 (chunkOf (zin m c) 2) -∗ ownsTc c (quartM oM c 0) fullShare (ownQ m c 0)
      -∗ cpy c (.out 0) -∗ ownsAny c (quartM rM c 0)
      -∗ (∀ w, ow c (dues.drop 15) -∗ pend c (.qs 3) -∗ ownsTc c zM kept2 (zin m c) -∗ pend c (.out 0) -∗ Q w)
      -∗ run c (onBufs (k0_part11 (F := F)) c w₁ w₂ w₃ w₄ w₅) Q) := by
  simp only [run, onBufs, k0_part11_eq_skeleton]
  unfold k0_part11_skel
  simp only [Prog.lift, Prog.bind_op, Prog.bind_ret, Prog.pure_eq_ret]
  iintro #HR HO Ht Hc Hd Hc0 Hc1 Hc2 Ho Hct Hr Hk
  ihave Hc := (owns_halve c kept1 (chunkM zM 3) (chunkOf (zin m c) 3)) $$ Hc
  icases Hc with ⟨Hl, Hc3⟩
  iapply (step_send m K c yp (dues.drop 14) (dues.drop 15) (.qs 3) (.qr 3) rfl (Fin.ext (k0_dev15_eq c)) rfl (src := chunkM zM 3) (dst := chunkM qM 3) rfl rfl rfl rfl
    lent2 (chunkOf (zin m c) 3) .rfl (to_qr m c 3)) $$ HR HO Ht Hl Hd
  iintro Hq HO
  ihave Hz := (chunks_join c kept2 zM (zin m c)) $$ [Hc0 Hc1 Hc2 Hc3]
  · isplitl [Hc0]; · iexact Hc0
    isplitl [Hc1]; · iexact Hc1
    isplitl [Hc2]; · iexact Hc2
    iexact Hc3
  iapply (load_quart c 0 (off4_q c) (k0_off4_inb c) (ownQ m c 0)) $$ Ho
  iintro Ho
  iapply (step_load_all c (M := zM) (off := ![0, 0, 0]) (by decide) inb_S4x16x2048_S4x16x2048_0_0_0 kept2 (zin m c)) $$ Hz
  iintro Hz
  iapply (load_quart c 0 (off4_q c) (k0_off4_inb c) (ownQ m c 0)) $$ Ho
  iintro Ho
  iapply (store_quart c 0 (off4_q c) (k0_off4_inb c) (ownQ m c 0) (quart m c 0)) $$ Ho
  iintro Ho
  iapply (step_copy m K c (.out 0) (src := quartM oM c 0) (dst := quartM rM c 0) rfl rfl fullShare (quart m c 0) .rfl) $$ HR Hct Ho Hr
  iintro Hp
  rw [wp_ret]
  imodintro
  iapply Hk $$ HO Hq Hz Hp

/-- The first chunk of the neighbour along the first axis arrives and is forwarded along the middle one. -/
theorem part12 (w₁ w₂ w₃ w₄ w₅ w₆ w₇ : BitVec 32) (Q : PUnit → sProp 𝕄) :
    (recs m K : sProp 𝕄) ⊢ iprop(ow c (dues.drop 15) -∗ pend c (.pr 0) -∗ snd c (yp c) (.gs 0) (.gr 0) -∗ ownsAny (yp c) (chunkM gM 0)
      -∗ (ow c (dues.drop 16) -∗ semVal (cell c (.pr 0)) 0 -∗ pend c (.gs 0) -∗ ownsTc c (chunkM pM 0) kept1 (chunkOf (zin m (xp c)) 0) -∗ Q ⟨⟩)
      -∗ run c (onBufs (k0_part12 (F := F)) c w₁ w₂ w₃ w₄ w₅ w₆ w₇) Q) := by
  simp only [run, onBufs, k0_part12_eq_skeleton]
  unfold k0_part12_skel
  simp only [Prog.lift, Prog.bind_op, Prog.bind_ret, Prog.pure_eq_ret]
  iintro #HR HO Hp Ht Hd Hk
  iapply (step_wait m K c (.pr 0) (dues.drop 15) (by decide) (dst := chunkM pM 0) rfl rfl) $$ HR HO Hp
  dsimp only [pay]
  iintro Hz Hc HO
  ihave Hc := (owns_halve c fullShare (chunkM pM 0) (chunkOf (zin m (xp c)) 0)) $$ Hc
  icases Hc with ⟨Hl, Hr⟩
  iapply (step_send m K c yp (dues.drop 15) (dues.drop 16) (.gs 0) (.gr 0) rfl (Fin.ext (k0_dev16_eq c)) rfl (src := chunkM pM 0) (dst := chunkM gM 0) rfl rfl rfl rfl
    lent1 (chunkOf (zin m (xp c)) 0) .rfl (to_gr_y m c 0)) $$ HR HO Ht Hl Hd
  iintro Hp HO
  rw [wp_ret]
  imodintro
  iapply Hk $$ HO Hz Hp Hr

/-- So does the second chunk; the third of the neighbour along the middle axis arrives. -/
theorem part13 (w₁ w₂ w₃ : BitVec 32) (Q : PUnit → sProp 𝕄) :
    (recs m K : sProp 𝕄) ⊢ iprop(ow c (dues.drop 16) -∗ pend c (.pr 1) -∗ snd c (yp c) (.gs 1) (.gr 1) -∗ ownsAny (yp c) (chunkM gM 1) -∗ pend c (.qr 2)
      -∗ (ow c (dues.drop 17) -∗ semVal (cell c (.pr 1)) 0 -∗ pend c (.gs 1) -∗ ownsTc c (chunkM pM 1) kept1 (chunkOf (zin m (xp c)) 1)
          -∗ semVal (cell c (.qr 2)) 0 -∗ ownsTc c (chunkM qM 2) fullShare (chunkOf (zin m (yp c)) 2) -∗ Q ⟨⟩)
      -∗ run c (onBufs (k0_part13 (F := F)) c w₁ w₂ w₃) Q) := by
  simp only [run, onBufs, k0_part13_eq_skeleton]
  unfold k0_part13_skel
  simp only [Prog.lift, Prog.bind_op, Prog.bind_ret, Prog.pure_eq_ret]
  iintro #HR HO Hp Ht Hd Hp' Hk
  iapply (step_wait m K c (.pr 1) (dues.drop 16) (by decide) (dst := chunkM pM 1) rfl rfl) $$ HR HO Hp
  dsimp only [pay]
  iintro Hz Hc HO
  ihave Hc := (owns_halve c fullShare (chunkM pM 1) (chunkOf (zin m (xp c)) 1)) $$ Hc
  icases Hc with ⟨Hl, Hr⟩
  iapply (step_send m K c yp (dues.drop 16) (dues.drop 17) (.gs 1) (.gr 1) rfl (Fin.ext (k0_dev17_eq c)) rfl (src := chunkM pM 1) (dst := chunkM gM 1) rfl rfl rfl rfl
    lent1 (chunkOf (zin m (xp c)) 1) .rfl (to_gr_y m c 1)) $$ HR HO Ht Hl Hd
  iintro Hp HO
  iapply (step_wait m K c (.qr 2) (dues.drop 17) (by decide) (dst := chunkM qM 2) rfl rfl) $$ HR HO Hp'
  dsimp only [pay]
  iintro Hz' Hc HO
  rw [wp_ret]
  imodintro
  iapply Hk $$ HO Hz Hp Hr Hz' Hc

/-- That chunk is forwarded along the first axis; the fourth arrives. -/
theorem part14 (w₁ w₂ w₃ w₄ w₅ : BitVec 32) (Q : BitVec 32 → sProp 𝕄) :
    (recs m K : sProp 𝕄) ⊢ iprop(ow c (dues.drop 17) -∗ ownsTc c (chunkM qM 2) fullShare (chunkOf (zin m (yp c)) 2)
      -∗ snd c (xp c) (.gs 2) (.gr 2) -∗ ownsAny (xp c) (chunkM gM 2) -∗ pend c (.qr 3)
      -∗ (∀ w, ow c (dues.drop 18) -∗ pend c (.gs 2) -∗ ownsTc c (chunkM qM 2) kept1 (chunkOf (zin m (yp c)) 2)
          -∗ semVal (cell c (.qr 3)) 0 -∗ ownsTc c (chunkM qM 3) fullShare (chunkOf (zin m (yp c)) 3) -∗ Q w)
      -∗ run c (onBufs (k0_part14 (F := F)) c w₁ w₂ w₃ w₄ w₅) Q) := by
  simp only [run, onBufs, k0_part14_eq_skeleton]
  unfold k0_part14_skel
  simp only [Prog.lift, Prog.bind_op, Prog.bind_ret, Prog.pure_eq_ret]
  iintro #HR HO Hc Ht Hd Hp' Hk
  ihave Hc := (owns_halve c fullShare (chunkM qM 2) (chunkOf (zin m (yp c)) 2)) $$ Hc
  icases Hc with ⟨Hl, Hr⟩
  iapply (step_send m K c xp (dues.drop 17) (dues.drop 18) (.gs 2) (.gr 2) rfl (Fin.ext (k0_dev18_eq c)) rfl (src := chunkM qM 2) (dst := chunkM gM 2) rfl rfl rfl rfl
    lent1 (chunkOf (zin m (yp c)) 2) .rfl (to_gr_x m c 2)) $$ HR HO Ht Hl Hd
  iintro Hp HO
  iapply (step_wait m K c (.qr 3) (dues.drop 18) (by decide) (dst := chunkM qM 3) rfl rfl) $$ HR HO Hp'
  dsimp only [pay]
  iintro Hz' Hc HO
  rw [wp_ret]
  imodintro
  iapply Hk $$ HO Hp Hr Hz' Hc

/-- The fourth chunk is forwarded too; the third of the neighbour along the first axis arrives. -/
theorem part15 (w₁ w₂ w₃ w₄ : BitVec 32) (Q : PUnit → sProp 𝕄) :
    (recs m K : sProp 𝕄) ⊢ iprop(ow c (dues.drop 18) -∗ ownsTc c (chunkM qM 3) fullShare (chunkOf (zin m (yp c)) 3)
      -∗ snd c (xp c) (.gs 3) (.gr 3) -∗ ownsAny (xp c) (chunkM gM 3) -∗ pend c (.pr 2)
      -∗ (ow c [] -∗ pend c (.gs 3) -∗ ownsTc c (chunkM qM 3) kept1 (chunkOf (zin m (yp c)) 3)
          -∗ semVal (cell c (.pr 2)) 0 -∗ ownsTc c (chunkM pM 2) fullShare (chunkOf (zin m (xp c)) 2) -∗ Q ⟨⟩)
      -∗ run c (onBufs (k0_part15 (F := F)) c w₁ w₂ w₃ w₄) Q) := by
  simp only [run, onBufs, k0_part15_eq_skeleton]
  unfold k0_part15_skel
  simp only [Prog.lift, Prog.bind_op, Prog.bind_ret, Prog.pure_eq_ret]
  iintro #HR HO Hc Ht Hd Hp' Hk
  ihave Hc := (owns_halve c fullShare (chunkM qM 3) (chunkOf (zin m (yp c)) 3)) $$ Hc
  icases Hc with ⟨Hl, Hr⟩
  iapply (step_send m K c xp (dues.drop 18) [] (.gs 3) (.gr 3) rfl (Fin.ext (k0_dev19_eq c)) rfl (src := chunkM qM 3) (dst := chunkM gM 3) rfl rfl rfl rfl
    lent1 (chunkOf (zin m (yp c)) 3) .rfl (to_gr_x m c 3)) $$ HR HO Ht Hl Hd
  iintro Hp HO
  iapply (step_wait m K c (.pr 2) [] (by decide) (dst := chunkM pM 2) rfl rfl) $$ HR HO Hp'
  dsimp only [pay]
  iintro Hz' Hc HO
  rw [wp_ret]
  imodintro
  iapply Hk $$ HO Hp Hr Hz' Hc

/-- The last chunk of that neighbour arrives; the second quarter is finished and its copy out started. -/
theorem part16 (w₁ w₂ w₃ w₄ : BitVec 32) (Q : PUnit → sProp 𝕄) :
    (recs m K : sProp 𝕄) ⊢ iprop(ow c [] -∗ pend c (.pr 3) -∗ ownsTc c (chunkM pM 0) kept1 (chunkOf (zin m (xp c)) 0)
      -∗ ownsTc c (chunkM pM 1) kept1 (chunkOf (zin m (xp c)) 1) -∗ ownsTc c (chunkM pM 2) kept1 (chunkOf (zin m (xp c)) 2)
      -∗ ownsTc c (quartM oM c 1) fullShare (ownQ m c 1) -∗ cpy c (.out 1) -∗ ownsAny c (quartM rM c 1)
      -∗ (ow c [] -∗ semVal (cell c (.pr 3)) 0 -∗ ownsTc c (chunkM pM 3) lent1 (chunkOf (zin m (xp c)) 3)
          -∗ ownsTc c pM kept1 (zin m (xp c)) -∗ pend c (.out 1) -∗ Q ⟨⟩)
      -∗ run c (onBufs (k0_part16 (F := F)) c w₁ w₂ w₃ w₄) Q) := by
  simp only [run, onBufs, k0_part16_eq_skeleton]
  unfold k0_part16_skel
  simp only [Prog.lift, Prog.bind_op, Prog.bind_ret, Prog.pure_eq_ret]
  iintro #HR HO Hp Hc0 Hc1 Hc2 Ho Hct Hr Hk
  iapply (step_wait m K c (.pr 3) [] (by decide) (dst := chunkM pM 3) rfl rfl) $$ HR HO Hp
  dsimp only [pay]
  iintro Hz Hc HO
  ihave Hc := (owns_halve c fullShare (chunkM pM 3) (chunkOf (zin m (xp c)) 3)) $$ Hc
  icases Hc with ⟨Hl, Hc3⟩
  ihave Hb := (chunks_join c kept1 pM (zin m (xp c))) $$ [Hc0 Hc1 Hc2 Hc3]
  · isplitl [Hc0]; · iexact Hc0
    isplitl [Hc1]; · iexact Hc1
    isplitl [Hc2]; · iexact Hc2
    iexact Hc3
  iapply (load_quart c 1 (off6_q c) (k0_off6_inb c) (ownQ m c 1)) $$ Ho
  iintro Ho
  iapply (step_load_all c (M := pM) (off := ![0, 0, 0]) (by decide) inb_S4x16x2048_S4x16x2048_0_0_0 kept1 (zin m (xp c))) $$ Hb
  iintro Hb
  iapply (load_quart c 1 (off6_q c) (k0_off6_inb c) (ownQ m c 1)) $$ Ho
  iintro Ho
  iapply (store_quart c 1 (off6_q c) (k0_off6_inb c) (ownQ m c 1) (quart m c 1)) $$ Ho
  iintro Ho
  iapply (step_copy m K c (.out 1) (src := quartM oM c 1) (dst := quartM rM c 1) rfl rfl fullShare (quart m c 1) .rfl) $$ HR Hct Ho Hr
  iintro Hp
  rw [wp_ret]
  imodintro
  iapply Hk $$ HO Hz Hl Hb Hp

/-- The first two chunks of the neighbour along the middle axis arrive; the third quarter is finished. -/
theorem part17 (w₁ w₂ w₃ w₄ : BitVec 32) (Q : PUnit → sProp 𝕄) :
    (recs m K : sProp 𝕄) ⊢ iprop(ow c [] -∗ pend c (.qr 0) -∗ pend c (.qr 1) -∗ ownsTc c (chunkM qM 2) kept1 (chunkOf (zin m (yp c)) 2)
      -∗ ownsTc c (chunkM qM 3) kept1 (chunkOf (zin m (yp c)) 3) -∗ ownsTc c (quartM oM c 2) fullShare (ownQ m c 2)
      -∗ (ow c [] -∗ semVal (cell c (.qr 0)) 0 -∗ semVal (cell c (.qr 1)) 0
          -∗ ownsTc c (chunkM qM 0) lent1 (chunkOf (zin m (yp c)) 0) -∗ ownsTc c (chunkM qM 1) lent1 (chunkOf (zin m (yp c)) 1)
          -∗ ownsTc c qM kept1 (zin m (yp c)) -∗ ownsTc c (quartM oM c 2) fullShare (quart m c 2) -∗ Q ⟨⟩)
      -∗ run c (onBufs (k0_part17 (F := F)) c w₁ w₂ w₃ w₄) Q) := by
  simp only [run, onBufs, k0_part17_eq_skeleton]
  unfold k0_part17_skel
  simp only [Prog.lift, Prog.bind_op, Prog.bind_ret, Prog.pure_eq_ret]
  iintro #HR HO Hp0 Hp1 Hc2 Hc3 Ho Hk
  iapply (step_wait m K c (.qr 0) [] (by decide) (dst := chunkM qM 0) rfl rfl) $$ HR HO Hp0
  dsimp only [pay]
  iintro Hz0 Hc HO
  ihave Hc := (owns_halve c fullShare (chunkM qM 0) (chunkOf (zin m (yp c)) 0)) $$ Hc
  icases Hc with ⟨Hl0, Hc0⟩
  iapply (step_wait m K c (.qr 1) [] (by decide) (dst := chunkM qM 1) rfl rfl) $$ HR HO Hp1
  dsimp only [pay]
  iintro Hz1 Hc HO
  ihave Hc := (owns_halve c fullShare (chunkM qM 1) (chunkOf (zin m (yp c)) 1)) $$ Hc
  icases Hc with ⟨Hl1, Hc1⟩
  ihave Hb := (chunks_join c kept1 qM (zin m (yp c))) $$ [Hc0 Hc1 Hc2 Hc3]
  · isplitl [Hc0]; · iexact Hc0
    isplitl [Hc1]; · iexact Hc1
    isplitl [Hc2]; · iexact Hc2
    iexact Hc3
  iapply (load_quart c 2 (off8_q c) (k0_off8_inb c) (ownQ m c 2)) $$ Ho
  iintro Ho
  iapply (step_load_all c (M := qM) (off := ![0, 0, 0]) (by decide) inb_S4x16x2048_S4x16x2048_0_0_0 kept1 (zin m (yp c))) $$ Hb
  iintro Hb
  iapply (load_quart c 2 (off8_q c) (k0_off8_inb c) (ownQ m c 2)) $$ Ho
  iintro Ho
  iapply (store_quart c 2 (off8_q c) (k0_off8_inb c) (ownQ m c 2) (quart m c 2)) $$ Ho
  iintro Ho
  rw [wp_ret]
  imodintro
  iapply Hk $$ HO Hz0 Hz1 Hl0 Hl1 Hb Ho

/-- The third quarter's copy out starts; the first two twice forwarded chunks arrive. -/
theorem part18 (w₁ w₂ w₃ w₄ : BitVec 32) (Q : (Σ' (_ : BitVec 32), BitVec 32) → sProp 𝕄) :
    (recs m K : sProp 𝕄) ⊢ iprop(ow c [] -∗ cpy c (.out 2) -∗ ownsTc c (quartM oM c 2) fullShare (quart m c 2) -∗ ownsAny c (quartM rM c 2)
      -∗ pend c (.gr 0) -∗ pend c (.gr 1)
      -∗ (∀ w, ow c [] -∗ pend c (.out 2) -∗ semVal (cell c (.gr 0)) 0 -∗ semVal (cell c (.gr 1)) 0
          -∗ ownsTc c (chunkM gM 0) fullShare (chunkOf (zin m (xp (yp c))) 0) -∗ ownsTc c (chunkM gM 1) fullShare (chunkOf (zin m (xp (yp c))) 1) -∗ Q w)
      -∗ run c (onBufs (k0_part18 (F := F)) c w₁ w₂ w₃ w₄) Q) := by
  simp only [run, onBufs, k0_part18_eq_skeleton]
  unfold k0_part18_skel
  simp only [Prog.lift, Prog.bind_op, Prog.bind_ret, Prog.pure_eq_ret]
  iintro #HR HO Hct Ho Hr Hp0 Hp1 Hk
  iapply (step_copy m K c (.out 2) (src := quartM oM c 2) (dst := quartM rM c 2) rfl rfl fullShare (quart m c 2) .rfl) $$ HR Hct Ho Hr
  iintro Hp
  iapply (step_wait m K c (.gr 0) [] (by decide) (dst := chunkM gM 0) rfl rfl) $$ HR HO Hp0
  dsimp only [pay]
  iintro Hz0 Hc0 HO
  iapply (step_wait m K c (.gr 1) [] (by decide) (dst := chunkM gM 1) rfl rfl) $$ HR HO Hp1
  dsimp only [pay]
  iintro Hz1 Hc1 HO
  rw [wp_ret]
  imodintro
  iapply Hk $$ HO Hp Hz0 Hz1 Hc0 Hc1

/-- The other two twice forwarded chunks arrive; the sum of the last quarter is formed. -/
theorem part19 (w₁ w₂ w₃ w₄ w₅ w₆ : BitVec 32) (Q : (Σ' (_ : FVec F S64x2048 .f32), Vec F S64x2048 .f32) → sProp 𝕄) :
    (recs m K : sProp 𝕄) ⊢ iprop(ow c [] -∗ pend c (.gr 2) -∗ pend c (.gr 3)
      -∗ ownsTc c (chunkM gM 0) fullShare (chunkOf (zin m (xp (yp c))) 0) -∗ ownsTc c (chunkM gM 1) fullShare (chunkOf (zin m (xp (yp c))) 1)
      -∗ ownsTc c (quartM oM c 3) fullShare (ownQ m c 3)
      -∗ (ow c [] -∗ semVal (cell c (.gr 2)) 0 -∗ semVal (cell c (.gr 3)) 0 -∗ ownsTc c gM fullShare (zin m (xp (yp c)))
          -∗ ownsTc c (quartM oM c 3) fullShare (ownQ m c 3) -∗ Q ⟨k0_pay7 (ownQ m c 3) (zin m (xp (yp c))), ownQ m c 3⟩)
      -∗ run c (onBufs (k0_part19 (F := F)) c w₁ w₂ w₃ w₄ w₅ w₆) Q) := by
  simp only [run, onBufs, k0_part19_eq_skeleton]
  unfold k0_part19_skel
  simp only [Prog.lift, Prog.bind_op, Prog.bind_ret, Prog.pure_eq_ret]
  iintro #HR HO Hp2 Hp3 Hc0 Hc1 Ho Hk
  iapply (step_wait m K c (.gr 2) [] (by decide) (dst := chunkM gM 2) rfl rfl) $$ HR HO Hp2
  dsimp only [pay]
  iintro Hz2 Hc2 HO
  iapply (step_wait m K c (.gr 3) [] (by decide) (dst := chunkM gM 3) rfl rfl) $$ HR HO Hp3
  dsimp only [pay]
  iintro Hz3 Hc3 HO
  ihave Hb := (chunks_join c fullShare gM (zin m (xp (yp c)))) $$ [Hc0 Hc1 Hc2 Hc3]
  · isplitl [Hc0]; · iexact Hc0
    isplitl [Hc1]; · iexact Hc1
    isplitl [Hc2]; · iexact Hc2
    iexact Hc3
  iapply (load_quart c 3 (off10_q c) (k0_off10_inb c) (ownQ m c 3)) $$ Ho
  iintro Ho
  iapply (step_load_all c (M := gM) (off := ![0, 0, 0]) (by decide) inb_S4x16x2048_S4x16x2048_0_0_0 fullShare (zin m (xp (yp c)))) $$ Hb
  iintro Hb
  iapply (load_quart c 3 (off10_q c) (k0_off10_inb c) (ownQ m c 3)) $$ Ho
  iintro Ho
  rw [wp_ret]
  imodintro
  iapply Hk $$ HO Hz2 Hz3 Hb Ho

/-- The last quarter is stored and copied out, and all four copies out are waited for. -/
theorem part20 (w₁ : BitVec 32) (v : Vec F S64x2048 .f32) (Q : PUnit → sProp 𝕄) :
    (recs m K : sProp 𝕄) ⊢ iprop(ow c [] -∗ ownsTc c (quartM oM c 3) fullShare (ownQ m c 3) -∗ cpy c (.out 3) -∗ ownsAny c (quartM rM c 3)
      -∗ pend c (.out 0) -∗ pend c (.out 1) -∗ pend c (.out 2)
      -∗ (ow c [] -∗ four (fun j => semVal (cell c (.out j)) 0) -∗ four (fun j => pay m c (.out j)) -∗ Q ⟨⟩)
      -∗ run c (onBufs (k0_part20 (F := F)) c w₁ (k0_pay7 (ownQ m c 3) (zin m (xp (yp c)))) v) Q) := by
  simp only [run, onBufs, k0_part20_eq_skeleton]
  unfold k0_part20_skel
  simp only [Prog.lift, Prog.bind_op, Prog.bind_ret, Prog.pure_eq_ret]
  iintro #HR HO Ho Hct Hr Hp0 Hp1 Hp2 Hk
  iapply (store_quart c 3 (off10_q c) (k0_off10_inb c) (ownQ m c 3) (quart m c 3)) $$ Ho
  iintro Ho
  iapply (step_copy m K c (.out 3) (src := quartM oM c 3) (dst := quartM rM c 3) rfl rfl fullShare (quart m c 3) .rfl) $$ HR Hct Ho Hr
  iintro Hp3
  iapply (step_wait m K c (.out 0) [] (by decide) (dst := quartM rM c 0) rfl rfl) $$ HR HO Hp0
  iintro Hz0 Hc0 HO
  iapply (step_wait m K c (.out 1) [] (by decide) (dst := quartM rM c 1) rfl rfl) $$ HR HO Hp1
  iintro Hz1 Hc1 HO
  iapply (step_wait m K c (.out 2) [] (by decide) (dst := quartM rM c 2) rfl rfl) $$ HR HO Hp2
  iintro Hz2 Hc2 HO
  iapply (step_wait m K c (.out 3) [] (by decide) (dst := quartM rM c 3) rfl rfl) $$ HR HO Hp3
  iintro Hz3 Hc3 HO
  rw [wp_ret]
  imodintro
  iapply Hk $$ HO [Hz0 Hz1 Hz2 Hz3]
  · unfold four
    isplitl [Hz0]; · iexact Hz0
    isplitl [Hz1]; · iexact Hz1
    isplitl [Hz2]; · iexact Hz2
    iexact Hz3
  unfold four
  isplitl [Hc0]; · iexact Hc0
  isplitl [Hc1]; · iexact Hc1
  isplitl [Hc2]; · iexact Hc2
  iexact Hc3

/-- The four sends along the last axis have read their sources. -/
theorem part21 (Q : PUnit → sProp 𝕄) :
    (recs m K : sProp 𝕄) ⊢ iprop(ow c [] -∗ pend c (.zs 0) -∗ pend c (.zs 1) -∗ pend c (.zs 2) -∗ pend c (.zs 3)
      -∗ (ow c [] -∗ four (fun k => semVal (cell c (.zs k)) 0) -∗ four (fun k => pay m c (.zs k)) -∗ Q ⟨⟩)
      -∗ run c (onBufs (k0_part21 (F := F)) c) Q) := by
  simp only [run, onBufs, k0_part21_eq_skeleton]
  unfold k0_part21_skel
  simp only [Prog.lift, Prog.bind_op, Prog.bind_ret, Prog.pure_eq_ret]
  iintro #HR HO Hp0 Hp1 Hp2 Hp3 Hk
  iapply (step_wait m K c (.zs 0) [] (by decide) (dst := sentM c 0) rfl rfl) $$ HR HO Hp0
  iintro Hz0 Hc0 HO
  iapply (step_wait m K c (.zs 1) [] (by decide) (dst := sentM c 1) rfl rfl) $$ HR HO Hp1
  iintro Hz1 Hc1 HO
  iapply (step_wait m K c (.zs 2) [] (by decide) (dst := sentM c 2) rfl rfl) $$ HR HO Hp2
  iintro Hz2 Hc2 HO
  iapply (step_wait m K c (.zs 3) [] (by decide) (dst := sentM c 3) rfl rfl) $$ HR HO Hp3
  iintro Hz3 Hc3 HO
  rw [wp_ret]
  imodintro
  iapply Hk $$ HO [Hz0 Hz1 Hz2 Hz3]
  · unfold four
    isplitl [Hz0]; · iexact Hz0
    isplitl [Hz1]; · iexact Hz1
    isplitl [Hz2]; · iexact Hz2
    iexact Hz3
  unfold four
  isplitl [Hc0]; · iexact Hc0
  isplitl [Hc1]; · iexact Hc1
  isplitl [Hc2]; · iexact Hc2
  iexact Hc3

/-- So have the four forwards along the first axis. -/
theorem part22 (Q : PUnit → sProp 𝕄) :
    (recs m K : sProp 𝕄) ⊢ iprop(ow c [] -∗ pend c (.ps 0) -∗ pend c (.ps 1) -∗ pend c (.ps 2) -∗ pend c (.ps 3)
      -∗ (ow c [] -∗ four (fun k => semVal (cell c (.ps k)) 0) -∗ four (fun k => pay m c (.ps k)) -∗ Q ⟨⟩)
      -∗ run c (onBufs (k0_part22 (F := F))) Q) := by
  simp only [run, onBufs, k0_part22_eq_skeleton]
  unfold k0_part22_skel
  simp only [Prog.lift, Prog.bind_op, Prog.bind_ret, Prog.pure_eq_ret]
  iintro #HR HO Hp0 Hp1 Hp2 Hp3 Hk
  iapply (step_wait m K c (.ps 0) [] (by decide) (dst := chunkM zM 0) rfl rfl) $$ HR HO Hp0
  iintro Hz0 Hc0 HO
  iapply (step_wait m K c (.ps 1) [] (by decide) (dst := chunkM zM 1) rfl rfl) $$ HR HO Hp1
  iintro Hz1 Hc1 HO
  iapply (step_wait m K c (.ps 2) [] (by decide) (dst := chunkM zM 2) rfl rfl) $$ HR HO Hp2
  iintro Hz2 Hc2 HO
  iapply (step_wait m K c (.ps 3) [] (by decide) (dst := chunkM zM 3) rfl rfl) $$ HR HO Hp3
  iintro Hz3 Hc3 HO
  rw [wp_ret]
  imodintro
  iapply Hk $$ HO [Hz0 Hz1 Hz2 Hz3]
  · unfold four
    isplitl [Hz0]; · iexact Hz0
    isplitl [Hz1]; · iexact Hz1
    isplitl [Hz2]; · iexact Hz2
    iexact Hz3
  unfold four
  isplitl [Hc0]; · iexact Hc0
  isplitl [Hc1]; · iexact Hc1
  isplitl [Hc2]; · iexact Hc2
  iexact Hc3

/-- So have the four forwards along the middle axis. -/
theorem part23 (Q : PUnit → sProp 𝕄) :
    (recs m K : sProp 𝕄) ⊢ iprop(ow c [] -∗ pend c (.qs 0) -∗ pend c (.qs 1) -∗ pend c (.qs 2) -∗ pend c (.qs 3)
      -∗ (ow c [] -∗ four (fun k => semVal (cell c (.qs k)) 0) -∗ four (fun k => pay m c (.qs k)) -∗ Q ⟨⟩)
      -∗ run c (onBufs (k0_part23 (F := F))) Q) := by
  simp only [run, onBufs, k0_part23_eq_skeleton]
  unfold k0_part23_skel
  simp only [Prog.lift, Prog.bind_op, Prog.bind_ret, Prog.pure_eq_ret]
  iintro #HR HO Hp0 Hp1 Hp2 Hp3 Hk
  iapply (step_wait m K c (.qs 0) [] (by decide) (dst := chunkM zM 0) rfl rfl) $$ HR HO Hp0
  iintro Hz0 Hc0 HO
  iapply (step_wait m K c (.qs 1) [] (by decide) (dst := chunkM zM 1) rfl rfl) $$ HR HO Hp1
  iintro Hz1 Hc1 HO
  iapply (step_wait m K c (.qs 2) [] (by decide) (dst := chunkM zM 2) rfl rfl) $$ HR HO Hp2
  iintro Hz2 Hc2 HO
  iapply (step_wait m K c (.qs 3) [] (by decide) (dst := chunkM zM 3) rfl rfl) $$ HR HO Hp3
  iintro Hz3 Hc3 HO
  rw [wp_ret]
  imodintro
  iapply Hk $$ HO [Hz0 Hz1 Hz2 Hz3]
  · unfold four
    isplitl [Hz0]; · iexact Hz0
    isplitl [Hz1]; · iexact Hz1
    isplitl [Hz2]; · iexact Hz2
    iexact Hz3
  unfold four
  isplitl [Hc0]; · iexact Hc0
  isplitl [Hc1]; · iexact Hc1
  isplitl [Hc2]; · iexact Hc2
  iexact Hc3

end Parts

end Cert.KernelIdeal.Scatter
-- ==== Proof.Body.lean ====
module

public import proofs.«01_k».proof.Proof.BodyB

/-! The whole run of the kernel's text on one device. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The channels, listed -/

/-- Every channel, in the order of the semaphores. -/
def Ch.all : List Ch :=
  [.inX, .inD 0, .inD 1, .out 0, .out 1, .out 2, .out 3, .zs 0, .zs 1, .zs 2, .zs 3, .zr 0, .zr 1, .zr 2, .zr 3,
    .ps 0, .ps 1, .ps 2, .ps 3, .pr 0, .pr 1, .pr 2, .pr 3, .qs 0, .qs 1, .qs 2, .qs 3, .qr 0, .qr 1, .qr 2, .qr 3,
    .gs 0, .gs 1, .gs 2, .gs 3, .gr 0, .gr 1, .gr 2, .gr 3]

/-- Every channel is in the list of all channels. -/
theorem Ch.mem_all (ch : Ch) : ch ∈ Ch.all := by
  cases ch with
  | inX => decide
  | inD k => revert k; decide
  | out k => revert k; decide
  | zs k => revert k; decide
  | zr k => revert k; decide
  | ps k => revert k; decide
  | pr k => revert k; decide
  | qs k => revert k; decide
  | qr k => revert k; decide
  | gs k => revert k; decide
  | gr k => revert k; decide

/-- The channels are finitely many. -/
instance : Fintype Ch := ⟨Ch.all.toFinset, fun ch => List.mem_toFinset.mpr (Ch.mem_all ch)⟩

/-- A conjunction over the channels, written out. -/
theorem sep_ch (P : Ch → sProp 𝕄) : bigSep Finset.univ P = bigSepL Ch.all P :=
  bigSep_univ_eq_bigSepL Ch.all rfl (by decide) P

/-! ## What one device holds before and after its run -/

/-- What device `c` holds of a channel before the run: a duty and a wait for what it starts itself, a wait for what
    a neighbour starts. -/
def held (c : Dev nD) : Ch → sProp 𝕄
  | .inX => cpy c .inX
  | .inD h => cpy c (.inD h)
  | .out j => cpy c (.out j)
  | .zs k => snd c (zp c) (.zs k) (.zr k)
  | .zr k => pend c (.zr k)
  | .ps k => snd c (xp c) (.ps k) (.pr k)
  | .pr k => pend c (.pr k)
  | .qs k => snd c (yp c) (.qs k) (.qr k)
  | .qr k => pend c (.qr k)
  | .gs k => if k.val < 2 then snd c (yp c) (.gs k) (.gr k) else snd c (xp c) (.gs k) (.gr k)
  | .gr k => pend c (.gr k)

section Whole

variable (m : (ℓ : Loc nD τ sig) → Buf (Elt F) ℓ) (K : Dev nD × Option (Fin 39) → ℕ) (c : Dev nD)

/-- The scratch buffers, at contents nothing is said about. -/
def scratch : sProp 𝕄 :=
  iprop(ownsAny c xM ∗ ownsAny c dM ∗ ownsAny c oM ∗ ownsAny c kM ∗ ownsAny c zM ∗ ownsAny c pM ∗ ownsAny c qM ∗ ownsAny c gM)

/-- What device `c` holds before the run, besides the records. -/
def before : sProp 𝕄 :=
  iprop(ow c dues ∗ (cred (tallyAt (bar c) () 3) ∗ atPos ER (bar c) 0 ∅ 0)
    ∗ (dutyTok ER (bar (zp c)) 0 0 ∗ dutyTok ER (bar (xp c)) 0 1 ∗ dutyTok ER (bar (yp c)) 0 2)
    ∗ bigSep Finset.univ (held c)
    ∗ (ownsTc c aM fullShare (xin m c) ∗ ownsTc c bM fullShare (yin m c) ∗ ownsAny c rM) ∗ scratch c)

/-- The result array, at contents that are the finished quarter on each quarter. -/
def finished : sProp 𝕄 :=
  iprop(∃ V, ⌜∀ j : Fin 4, (fun x => V ((quartR c j).emb x)) = quart m c j⌝ ∗ ownsTc c rM fullShare V)

/-- What device `c` holds after the run: nothing owed, every semaphore zero, the arguments as they were, and the result
    finished quarter by quarter. -/
def after : sProp 𝕄 :=
  iprop(ow c [] ∗ (semVal (bar c) 0 ∗ bigSep Finset.univ (fun ch : Ch => semVal (cell c ch) 0))
    ∗ (ownsTc c aM fullShare (xin m c) ∗ ownsTc c bM fullShare (yin m c) ∗ finished m c) ∗ scratch c)

/-! ## Buffers taken apart and put together -/

/-- A landing buffer with any contents is its four chunks with any contents. -/
theorem chunks_any (M : Memref sig .tc .vmem S4x16x2048 .bf16) : (ownsAny c M : sProp 𝕄) ⊢ four (fun k => ownsAny c (chunkM M k)) := by
  unfold four
  iintro H
  ihave H := (show (ownsAny c M : sProp 𝕄) ⊢ iprop(∃ V, ownsTc c M fullShare V) from .rfl) $$ H
  icases H with ⟨%V, H⟩
  ihave H := (chunks_split c fullShare M V) $$ H
  icases H with ⟨H0, H1, H2, H3⟩
  ihave H0 := (owns_any c _ _) $$ H0
  ihave H1 := (owns_any c _ _) $$ H1
  ihave H2 := (owns_any c _ _) $$ H2
  ihave H3 := (owns_any c _ _) $$ H3
  iframe

/-- A result buffer with any contents is its four quarters with any contents. -/
theorem quarts_any {sp : Space} (M : Memref sig .tc sp S256x2048 .f32) : (ownsAny c M : sProp 𝕄) ⊢ four (fun j => ownsAny c (quartM M c j)) := by
  unfold four
  iintro H
  ihave H := (show (ownsAny c M : sProp 𝕄) ⊢ iprop(∃ V, ownsTc c M fullShare V) from .rfl) $$ H
  icases H with ⟨%V, H⟩
  ihave H := (quarts_split c fullShare M V) $$ H
  icases H with ⟨H0, H1, H2, H3⟩
  ihave H0 := (owns_any c _ _) $$ H0
  ihave H1 := (owns_any c _ _) $$ H1
  ihave H2 := (owns_any c _ _) $$ H2
  ihave H3 := (owns_any c _ _) $$ H3
  iframe

/-- A buffer of the second argument with any contents is its two halves with any contents. -/
theorem halves_any {sp : Space} (M : Memref sig .tc sp S512x2048 .f32) : (ownsAny c M : sProp 𝕄) ⊢ iprop(ownsAny c (halfM M 0) ∗ ownsAny c (halfM M 1)) := by
  iintro H
  ihave H := (show (ownsAny c M : sProp 𝕄) ⊢ iprop(∃ V, ownsTc c M fullShare V) from .rfl) $$ H
  icases H with ⟨%V, H⟩
  ihave H := (halves_split c fullShare M V) $$ H
  icases H with ⟨H0, H1⟩
  ihave H0 := (owns_any c _ _) $$ H0
  ihave H1 := (owns_any c _ _) $$ H1
  iframe

/-- The packed block with any contents is its two halves with any contents. -/
theorem khalves_any : (ownsAny c kM : sProp 𝕄) ⊢ iprop(ownsAny c (kM.slice (khalfR 0) (fun _ => rfl)) ∗ ownsAny c (kM.slice (khalfR 1) (fun _ => rfl))) := by
  iintro H
  ihave H := (show (ownsAny c kM : sProp 𝕄) ⊢ iprop(∃ V, ownsTc c kM fullShare V) from .rfl) $$ H
  icases H with ⟨%V, H⟩
  ihave H := (khalves_split c fullShare V) $$ H
  icases H with ⟨H0, H1⟩
  ihave H0 := (owns_any c _ _) $$ H0
  ihave H1 := (owns_any c _ _) $$ H1
  iframe

/-- The packed buffer from its two halves. -/
theorem pack_halves : iprop(ownsTc c (kM.slice (khalfR 0) (fun _ => rfl)) fullShare (packHalf m c 0)
    ∗ ownsTc c (kM.slice (khalfR 1) (fun _ => rfl)) fullShare (packHalf m c 1)) ⊢ (ownsTc c kM fullShare (packed m c) : sProp 𝕄) := by
  rw [← packed_half c m 0, ← packed_half c m 1]
  exact khalves_join c fullShare (packed m c)

/-- The second argument taken apart into its halves. -/
theorem y_split {sp : Space} (M : Memref sig .tc sp S512x2048 .f32) : (ownsTc c M fullShare (yin m c) : sProp 𝕄)
    ⊢ iprop(ownsTc c (halfM M 0) fullShare (yhalf m c 0) ∗ ownsTc c (halfM M 1) fullShare (yhalf m c 1)) := halves_split c fullShare M (yin m c)
/-- The second argument put together from its halves. -/
theorem y_join {sp : Space} (M : Memref sig .tc sp S512x2048 .f32) :
    iprop(ownsTc c (halfM M 0) fullShare (yhalf m c 0) ∗ ownsTc c (halfM M 1) fullShare (yhalf m c 1))
      ⊢ (ownsTc c M fullShare (yin m c) : sProp 𝕄) := halves_join c fullShare M (yin m c)

/-- What the signal along the last axis hands over. -/
theorem give_z : (ownsAny c zM : sProp 𝕄) ⊢ barPay (zp c) 0 := by
  unfold barPay; rw [zp_zp]; exact chunks_any c zM
/-- What the signal along the first axis hands over. -/
theorem give_p : iprop(ownsAny c pM ∗ ownsAny c (chunkM gM 2) ∗ ownsAny c (chunkM gM 3)) ⊢ (barPay (xp c) 1 : sProp 𝕄) := by
  unfold barPay; rw [xp_xp]; exact sep_mono (chunks_any c pM) .rfl
/-- What the signal along the middle axis hands over. -/
theorem give_q : iprop(ownsAny c qM ∗ ownsAny c (chunkM gM 0) ∗ ownsAny c (chunkM gM 1)) ⊢ (barPay (yp c) 2 : sProp 𝕄) := by
  unfold barPay; rw [yp_yp]; exact sep_mono (chunks_any c qM) .rfl

/-- The half of the result's staging buffer that a store left, taken apart into the quarters. -/
theorem own_quarts : (ownsTc c oM fullShare (ownProd m c) : sProp 𝕄) ⊢ four (fun j => ownsTc c (quartM oM c j) fullShare (ownQ m c j)) :=
  quarts_split c fullShare oM (ownProd m c)

/-- A buffer of four chunks lent chunk by chunk at the left half of a share is whole again at that share. -/
theorem chunks_back (M : Memref sig .tc .vmem S4x16x2048 .bf16) (q : PosShare TreeShare) (V : S4x16x2048.Idx → Elt F .bf16) :
    iprop(four (fun k => ownsTc c (chunkM M k) q.left (chunkOf V k)) ∗ ownsTc c M q.right V) ⊢ (ownsTc c M q V : sProp 𝕄) :=
  (sep_mono (chunks_join c q.left M V) .rfl).trans (owns_unhalve c M q V)

/-- Contents given piece by piece, on pieces that do not meet, are the contents of one function. -/
theorem glue {s : Shape} {A : Type} (a : A) {J : Type} (r : J → Rect s) (hd : ∀ j j', j ≠ j' → Disjoint (r j).set (r j').set)
    (W : ∀ j, (r j).shape.Idx → A) : ∃ V : s.Idx → A, ∀ j, (fun x => V ((r j).emb x)) = W j := by
  classical
  refine ⟨fun i => if h : ∃ t : (j : J) × (r j).shape.Idx, (r t.1).emb t.2 = i then W h.choose.1 h.choose.2 else a, fun j => funext fun x => ?_⟩
  have h : ∃ t : (j : J) × (r j).shape.Idx, (r t.1).emb t.2 = (r j).emb x := ⟨⟨j, x⟩, rfl⟩
  show (if h : ∃ t : (j : J) × (r j).shape.Idx, (r t.1).emb t.2 = (r j).emb x then W h.choose.1 h.choose.2 else a) = W j x
  rw [dif_pos h]
  have he := h.choose_spec
  generalize h.choose = t at he ⊢
  obtain ⟨j', x'⟩ := t
  by_cases hj : j' = j
  · subst hj
    exact congrArg (W j') ((r j').emb.injective he)
  · refine absurd ?_ (Finset.disjoint_left.mp (hd j j' (Ne.symm hj)) ((r j).idx_mem x))
    have h' : (r j').emb x' ∈ (r j').set := (r j').idx_mem x'
    rw [he] at h'
    exact h'

/-- The four quarters of a buffer, at any contents, make the buffer. -/
theorem quarts_back {sp : Space} (M : Memref sig .tc sp S256x2048 .f32) (W : ∀ j, (quartR c j).shape.Idx → Elt F .f32) :
    (four (fun j => ownsTc c (quartM M c j) fullShare (W j)) : sProp 𝕄)
      ⊢ iprop(∃ V, ⌜∀ j : Fin 4, (fun x => V ((quartR c j).emb x)) = W j⌝ ∗ ownsTc c M fullShare V) := by
  obtain ⟨V, hV⟩ := glue (constant (F := F) S64x2048 .f32 0x00000000#32 (fun a => ⟨0, by fin_cases a <;> decide⟩)) (quartR c) (disj_quart c) W
  obtain rfl : (fun j x => V ((quartR c j).emb x)) = W := funext hV
  iintro H
  iexists V
  isplitr
  · ipureintro; exact fun j => rfl
  unfold four
  iapply (quarts_join c fullShare M V)
  iexact H

/-- What the copies out leave: the finished result, and the staging buffer. -/
theorem out_back : (four (fun j => pay m c (.out j)) : sProp 𝕄) ⊢ iprop(finished m c ∗ ownsAny c oM) := by
  unfold four
  dsimp only [pay]
  iintro ⟨⟨R0, O0⟩, ⟨R1, O1⟩, ⟨R2, O2⟩, ⟨R3, O3⟩⟩
  isplitl [R0 R1 R2 R3]
  · unfold finished
    iapply (quarts_back c rM (quart m c))
    unfold four
    iframe
  · ihave H := (quarts_back c oM (quart m c)) $$ [O0 O1 O2 O3]
    · unfold four
      iframe
    icases H with ⟨%V, %hV, H⟩
    iapply (owns_any c oM V)
    iexact H

/-- The block received along the last axis, once both forwards have read it. -/
theorem z_back : iprop(four (fun k => pay m c (.ps k)) ∗ four (fun k => pay m c (.qs k)) ∗ ownsTc c zM kept2 (zin m c)) ⊢ (ownsAny c zM : sProp 𝕄) :=
  (sep_mono .rfl (chunks_back c zM fullShare.right (zin m c))).trans ((chunks_back c zM fullShare (zin m c)).trans (owns_any c zM _))

/-- The packed block, once the sends have read it. -/
theorem k_back : iprop(four (fun k => pay m c (.zs k)) ∗ keeps m c) ⊢ (ownsAny c kM : sProp 𝕄) :=
  (pack_join c m).trans (owns_any c kM _)

/-- The block received along the first axis, once the second forwards have read their half of it. -/
theorem p_back : iprop((pay m c (.gs 0) ∗ pay m c (.gs 1) ∗ ownsTc c (chunkM pM 2) lent1 (chunkOf (zin m (xp c)) 2)
    ∗ ownsTc c (chunkM pM 3) lent1 (chunkOf (zin m (xp c)) 3)) ∗ ownsTc c pM kept1 (zin m (xp c))) ⊢ (ownsAny c pM : sProp 𝕄) :=
  (chunks_back c pM fullShare (zin m (xp c))).trans (owns_any c pM _)

/-- The block received along the middle axis, once the second forwards have read their half of it. -/
theorem q_back : iprop((ownsTc c (chunkM qM 0) lent1 (chunkOf (zin m (yp c)) 0) ∗ ownsTc c (chunkM qM 1) lent1 (chunkOf (zin m (yp c)) 1)
    ∗ pay m c (.gs 2) ∗ pay m c (.gs 3)) ∗ ownsTc c qM kept1 (zin m (yp c))) ⊢ (ownsAny c qM : sProp 𝕄) :=
  (chunks_back c qM fullShare (zin m (yp c))).trans (owns_any c qM _)

/-- The device reads its own number and signals its neighbour along the last axis. -/
theorem part1 (Q : (Σ' (d0 : Dev nD) (v2 : BitVec 32) (v5 : BitVec 32) (v8 : BitVec 32) (v9 : BitVec 32) (v10 : BitVec 32) (v11 : BitVec 32)
      (v13 : BitVec 32) (v16 : BitVec 32) (v19 : BitVec 32) (v23 : BitVec 32) (v24 : Sems sig S_), BitVec 32) → sProp 𝕄) :
    (recs m K : sProp 𝕄) ⊢ iprop(ow c dues -∗ dutyTok ER (bar (zp c)) 0 0 -∗ barPay (zp c) 0
      -∗ (∀ w₁, ∀ w₂, ∀ w₃, ∀ w₄, ∀ w₅, ∀ w₆, ∀ w₇, ∀ w₈, ∀ w₉, ∀ w₁₀, ∀ w₁₁, ow c (dues.drop 1)
          -∗ Q ⟨c, w₁, w₂, w₃, w₄, w₅, w₆, w₇, w₈, w₉, w₁₀, SemArray.scalar (sig.barrier 0 rfl), w₁₁⟩)
      -∗ run c (onBufs (k0_part1 (F := F))) Q) := by
  simp only [run, onBufs, k0_part1_eq_skeleton]
  unfold k0_part1_skel
  simp only [semSignalWord, Prog.lift, Prog.bind_op, Prog.bind_ret, Prog.pure_eq_ret]
  iintro #HR HO Ht Hb Hk
  rw [wp_deviceId]
  iapply (step_signal m K c 0 zp dues (dues.drop 1) rfl (Fin.ext (k0_dev1_eq c)) rfl) $$ HR HO Ht Hb
  iintro HO
  rw [wp_ret]
  imodintro
  iapply Hk $$ HO

/-- What a device holds of the channels before the run, channel by channel. -/
theorem held_all : (bigSep Finset.univ (held c) : sProp 𝕄) = iprop(cpy c .inX ∗ cpy c (.inD 0) ∗ cpy c (.inD 1) ∗ cpy c (.out 0)
      ∗ cpy c (.out 1) ∗ cpy c (.out 2) ∗ cpy c (.out 3) ∗ snd c (zp c) (.zs 0) (.zr 0)
      ∗ snd c (zp c) (.zs 1) (.zr 1) ∗ snd c (zp c) (.zs 2) (.zr 2) ∗ snd c (zp c) (.zs 3) (.zr 3) ∗ pend c (.zr 0)
      ∗ pend c (.zr 1) ∗ pend c (.zr 2) ∗ pend c (.zr 3) ∗ snd c (xp c) (.ps 0) (.pr 0)
      ∗ snd c (xp c) (.ps 1) (.pr 1) ∗ snd c (xp c) (.ps 2) (.pr 2) ∗ snd c (xp c) (.ps 3) (.pr 3) ∗ pend c (.pr 0)
      ∗ pend c (.pr 1) ∗ pend c (.pr 2) ∗ pend c (.pr 3) ∗ snd c (yp c) (.qs 0) (.qr 0)
      ∗ snd c (yp c) (.qs 1) (.qr 1) ∗ snd c (yp c) (.qs 2) (.qr 2) ∗ snd c (yp c) (.qs 3) (.qr 3) ∗ pend c (.qr 0)
      ∗ pend c (.qr 1) ∗ pend c (.qr 2) ∗ pend c (.qr 3) ∗ snd c (yp c) (.gs 0) (.gr 0)
      ∗ snd c (yp c) (.gs 1) (.gr 1) ∗ snd c (xp c) (.gs 2) (.gr 2) ∗ snd c (xp c) (.gs 3) (.gr 3) ∗ pend c (.gr 0)
      ∗ pend c (.gr 1) ∗ pend c (.gr 2) ∗ pend c (.gr 3)) :=
  (sep_ch _).trans rfl

/-- The semaphores at zero, channel by channel. -/
theorem sems_all : (bigSep Finset.univ (fun ch : Ch => semVal (cell c ch) 0) : sProp 𝕄) = iprop(semVal (cell c .inX) 0 ∗ semVal (cell c (.inD 0)) 0 ∗ semVal (cell c (.inD 1)) 0 ∗ semVal (cell c (.out 0)) 0
      ∗ semVal (cell c (.out 1)) 0 ∗ semVal (cell c (.out 2)) 0 ∗ semVal (cell c (.out 3)) 0 ∗ semVal (cell c (.zs 0)) 0
      ∗ semVal (cell c (.zs 1)) 0 ∗ semVal (cell c (.zs 2)) 0 ∗ semVal (cell c (.zs 3)) 0 ∗ semVal (cell c (.zr 0)) 0
      ∗ semVal (cell c (.zr 1)) 0 ∗ semVal (cell c (.zr 2)) 0 ∗ semVal (cell c (.zr 3)) 0 ∗ semVal (cell c (.ps 0)) 0
      ∗ semVal (cell c (.ps 1)) 0 ∗ semVal (cell c (.ps 2)) 0 ∗ semVal (cell c (.ps 3)) 0 ∗ semVal (cell c (.pr 0)) 0
      ∗ semVal (cell c (.pr 1)) 0 ∗ semVal (cell c (.pr 2)) 0 ∗ semVal (cell c (.pr 3)) 0 ∗ semVal (cell c (.qs 0)) 0
      ∗ semVal (cell c (.qs 1)) 0 ∗ semVal (cell c (.qs 2)) 0 ∗ semVal (cell c (.qs 3)) 0 ∗ semVal (cell c (.qr 0)) 0
      ∗ semVal (cell c (.qr 1)) 0 ∗ semVal (cell c (.qr 2)) 0 ∗ semVal (cell c (.qr 3)) 0 ∗ semVal (cell c (.gs 0)) 0
      ∗ semVal (cell c (.gs 1)) 0 ∗ semVal (cell c (.gs 2)) 0 ∗ semVal (cell c (.gs 3)) 0 ∗ semVal (cell c (.gr 0)) 0
      ∗ semVal (cell c (.gr 1)) 0 ∗ semVal (cell c (.gr 2)) 0 ∗ semVal (cell c (.gr 3)) 0) :=
  (sep_ch _).trans rfl

set_option maxHeartbeats 4000000 in
/-- The whole run on one device. -/
theorem body_run (Q : PUnit → sProp 𝕄) :
    (recs m K : sProp 𝕄) ⊢ iprop(before m c -∗ (after m c -∗ Q ⟨⟩) -∗ run c (onBufs (cc0_body (F := F))) Q) := by
  simp only [run, onBufs, cc0_body_eq_skeleton]
  unfold cc0_body_skel
  simp only [k0_part24_eq_skeleton]
  unfold k0_part24_skel
  simp only [Prog.lift, Prog.bind_op, Prog.bind_ret, Prog.pure_eq_ret]
  unfold before scratch
  rw [held_all]
  iintro #HR ⟨HO, ⟨Hcb, Hpb⟩, ⟨Htz, Htx, Hty⟩, ⟨HinX, HinD0, HinD1, Hout0, Hout1, Hout2, Hout3, Hzs0, Hzs1, Hzs2, Hzs3, Hzr0, Hzr1, Hzr2, Hzr3, Hps0, Hps1, Hps2, Hps3, Hpr0, Hpr1, Hpr2, Hpr3, Hqs0, Hqs1, Hqs2, Hqs3, Hqr0, Hqr1, Hqr2, Hqr3, Hgs0, Hgs1, Hgs2, Hgs3, Hgr0, Hgr1, Hgr2, Hgr3⟩, ⟨Ha, Hb, Hr⟩, Hx, Hd, Ho, Hk, Hz, Hp, Hq, Hg⟩ Hend
  ihave Hbz := (give_z c) $$ Hz
  ihave Hg := (chunks_any c gM) $$ Hg
  unfold four
  icases Hg with ⟨Hg0, Hg1, Hg2, Hg3⟩
  ihave Hbp := (give_p c) $$ [Hp Hg2 Hg3]
  · iframe
  ihave Hbq := (give_q c) $$ [Hq Hg0 Hg1]
  · iframe
  ihave Hr := (quarts_any c rM) $$ Hr
  unfold four
  icases Hr with ⟨Hr0, Hr1, Hr2, Hr3⟩
  ihave Hb := (y_split m c bM) $$ Hb
  icases Hb with ⟨Hb0, Hb1⟩
  ihave Hd := (halves_any c dM) $$ Hd
  icases Hd with ⟨Hd0, Hd1⟩
  ihave Hk := (khalves_any c) $$ Hk
  icases Hk with ⟨Hk0, Hk1⟩
  rw [wp_bind, wp_bind]
  iapply (part1 m K c) $$ HR HO Htz Hbz
  iintro %w₁ %w₂ %w₃ %w₄ %w₅ %w₆ %w₇ %w₈ %w₉ %w₁₀ %w₁₁ HO
  dsimp only
  rw [wp_bind]
  iapply (part2 m K c) $$ HR HO Htx Hbp Hty Hbq HinX Ha Hx HinD0 Hb0 Hd0 HinD1 Hb1 Hd1
  iintro %u₂ HO SinX HX HinD0 HinD1
  dsimp only [pay]
  icases HX with ⟨Hx, Ha⟩
  rw [wp_bind]
  iapply (part3 m K c) $$ HR HO HinD0 HinD1 Hx Hk0 Hk1 Hcb Hpb
  iintro %u₃ HO SinD0 SinD1 Sb Hx Hd0 Hd1 Hb0 Hb1 Hk0 Hk1 HB
  ihave Hb := (y_join m c bM) $$ [Hb0 Hb1]
  · isplitl [Hb0]; · iexact Hb0
    iexact Hb1
  ihave Hd := (y_join m c dM) $$ [Hd0 Hd1]
  · isplitl [Hd0]; · iexact Hd0
    iexact Hd1
  ihave Hk := (pack_halves m c) $$ [Hk0 Hk1]
  · isplitl [Hk0]; · iexact Hk0
    iexact Hk1
  ihave Hk := (pack_split c m) $$ Hk
  icases Hk with ⟨⟨Hs0, Hs1, Hs2, Hs3⟩, Hkeep⟩
  unfold barPay
  icases HB with ⟨⟨Dz0, Dz1, Dz2, Dz3⟩, ⟨⟨Dp0, Dp1, Dp2, Dp3⟩, Dg2, Dg3⟩, ⟨Dq0, Dq1, Dq2, Dq3⟩, Dg0, Dg1⟩
  rw [wp_bind]
  iapply (part4 m K c) $$ HR HO Hzs0 Hs0 Dz0 Hzs1 Hs1 Dz1
  iintro %u₄ HO Hzs0 Hzs1
  rw [wp_bind]
  iapply (part5 m K c) $$ HR HO Hzs2 Hs2 Dz2 Hzs3 Hs3 Dz3 Hx Hd
  iintro HO Hzs2 Hzs3 Hx Hd
  dsimp only
  rw [wp_bind]
  iapply (part6 m K c) $$ HR HO Ho Hzr0 Hps0 Dp0
  iintro HO Ho Szr0 Hps0 Hz0
  rw [wp_bind]
  iapply (part7 m K c) $$ HR HO Hqs0 Hz0 Dq0 Hzr1
  iintro %u₇ HO Hqs0 Hz0 Szr1 Hz1
  rw [wp_bind]
  iapply (part8 m K c) $$ HR HO Hz1 Hps1 Dp1 Hqs1 Dq1
  iintro HO Hps1 Hqs1 Hz1
  rw [wp_bind]
  iapply (part9 m K c) $$ HR HO Hzr2 Hps2 Dp2
  iintro HO Szr2 Hps2 Hz2
  rw [wp_bind]
  iapply (part10 m K c) $$ HR HO Hqs2 Hz2 Dq2 Hzr3 Hps3 Dp3
  iintro %u₁₀ HO Hqs2 Hz2 Szr3 Hps3 Hz3
  ihave Ho := (own_quarts m c) $$ Ho
  unfold four
  icases Ho with ⟨Ho0, Ho1, Ho2, Ho3⟩
  rw [wp_bind]
  iapply (part11 m K c) $$ HR HO Hqs3 Hz3 Dq3 Hz0 Hz1 Hz2 Ho0 Hout0 Hr0
  iintro %u₁₁ HO Hqs3 Hz Hout0
  obtain ⟨u₁₁, u₁₁'⟩ := u₁₁
  dsimp only
  rw [wp_bind]
  iapply (part12 m K c) $$ HR HO Hpr0 Hgs0 Dg0
  iintro HO Spr0 Hgs0 Hp0
  rw [wp_bind]
  iapply (part13 m K c) $$ HR HO Hpr1 Hgs1 Dg1 Hqr2
  iintro HO Spr1 Hgs1 Hp1 Sqr2 Hq2
  rw [wp_bind]
  iapply (part14 m K c) $$ HR HO Hq2 Hgs2 Dg2 Hqr3
  iintro %u₁₄ HO Hgs2 Hq2 Sqr3 Hq3
  rw [wp_bind]
  iapply (part15 m K c) $$ HR HO Hq3 Hgs3 Dg3 Hpr2
  iintro HO Hgs3 Hq3 Spr2 Hp2
  ihave Hp2 := (owns_halve c fullShare (chunkM pM 2) (chunkOf (zin m (xp c)) 2)) $$ Hp2
  icases Hp2 with ⟨Lp2, Hp2⟩
  rw [wp_bind]
  iapply (part16 m K c) $$ HR HO Hpr3 Hp0 Hp1 Hp2 Ho1 Hout1 Hr1
  iintro HO Spr3 Lp3 Hp Hout1
  rw [wp_bind]
  iapply (part17 m K c) $$ HR HO Hqr0 Hqr1 Hq2 Hq3 Ho2
  iintro HO Sqr0 Sqr1 Lq0 Lq1 Hq Ho2
  rw [wp_bind]
  iapply (part18 m K c) $$ HR HO Hout2 Ho2 Hr2 Hgr0 Hgr1
  iintro %u₁₈ HO Hout2 Sgr0 Sgr1 Hg0 Hg1
  obtain ⟨u₁₈, u₁₈'⟩ := u₁₈
  dsimp only
  rw [wp_bind]
  iapply (part19 m K c) $$ HR HO Hgr2 Hgr3 Hg0 Hg1 Ho3
  iintro HO Sgr2 Sgr3 Hg Ho3
  dsimp only
  rw [wp_bind]
  iapply (part20 m K c) $$ HR HO Ho3 Hout3 Hr3 Hout0 Hout1 Hout2
  iintro HO Sout Pout
  rw [wp_bind]
  iapply (part21 m K c) $$ HR HO Hzs0 Hzs1 Hzs2 Hzs3
  iintro HO Szs Pzs
  rw [wp_bind]
  iapply (part22 m K c) $$ HR HO Hps0 Hps1 Hps2 Hps3
  iintro HO Sps Pps
  rw [wp_bind]
  iapply (part23 m K c) $$ HR HO Hqs0 Hqs1 Hqs2 Hqs3
  iintro HO Sqs Pqs
  iapply (step_wait m K c (.gs 0) [] (by decide) (dst := chunkM pM 0) rfl rfl) $$ HR HO Hgs0
  iintro Sgs0 Lp0 HO
  iapply (step_wait m K c (.gs 1) [] (by decide) (dst := chunkM pM 1) rfl rfl) $$ HR HO Hgs1
  iintro Sgs1 Lp1 HO
  rw [wp_ret]
  imodintro
  iapply (step_wait m K c (.gs 2) [] (by decide) (dst := chunkM qM 2) rfl rfl) $$ HR HO Hgs2
  iintro Sgs2 Lq2 HO
  iapply (step_wait m K c (.gs 3) [] (by decide) (dst := chunkM qM 3) rfl rfl) $$ HR HO Hgs3
  iintro Sgs3 Lq3 HO
  rw [wp_ret]
  imodintro
  ihave Hz := (z_back m c) $$ [Pps Pqs Hz]
  · iframe
  ihave Hk := (k_back m c) $$ [Pzs Hkeep]
  · iframe
  ihave Hp := (p_back m c) $$ [Lp0 Lp1 Lp2 Lp3 Hp]
  · iframe
  ihave Hq := (q_back m c) $$ [Lq0 Lq1 Lq2 Lq3 Hq]
  · iframe
  ihave Hg := (owns_any c gM _) $$ Hg
  ihave Hx := (owns_any c xM _) $$ Hx
  ihave Hd := (owns_any c dM _) $$ Hd
  ihave Pout := (out_back m c) $$ Pout
  icases Pout with ⟨Hr, Ho⟩
  iapply Hend
  unfold after scratch four
  rw [sems_all]
  icases Sout with ⟨So0, So1, So2, So3⟩
  icases Szs with ⟨Szs0, Szs1, Szs2, Szs3⟩
  icases Sps with ⟨Sps0, Sps1, Sps2, Sps3⟩
  icases Sqs with ⟨Sqs0, Sqs1, Sqs2, Sqs3⟩
  iframe

end Whole

end Cert.KernelIdeal.Scatter
-- ==== Proof.Deal.lean ====
module

public import proofs.«01_k».proof.Proof.Body

/-! What the launch deals: the rounds' ghost state of every cell, the tokens taken to the devices that pay with them,
    and the credits for what the neighbours owe. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The cells and the tokens -/

/-- The channels are the DMA semaphores. -/
def chSem : Ch ≃ Fin 39 := ⟨Ch.sem, chOf, chOf_sem, by decide⟩

/-- The kernel's own semaphores. -/
abbrev osem : Ch → SemLoc sig := fun ch => .dma ch.sem
/-- The channels' semaphores are scoped, distinct, and none of them is a window's. -/
theorem ownSemFacts : Pipeline.OwnSemFacts cfg0.spec osem where
  isScoped ch := by
    have h : ∀ s : Fin 39, (SemLoc.dma s : SemLoc sig).isScoped .tc = true := by decide
    exact h ch.sem
  inj a b h := chSem.injective (SemLoc.dma.inj h)
  disj k w s := w.elim0

/-- Different names are different cells. -/
theorem kcell_injective : Function.Injective (kcell : Dev nD × Option (Fin 39) → GSem nD τ sig) := by
  rintro ⟨c, a⟩ ⟨c', a'⟩ h
  have h1 : c = c' := congrArg (fun g : GSem nD τ sig => g.1.1) h
  have h2 : slot a = slot a' := congrArg Prod.snd h
  subst h1
  cases a with
  | none => cases a' with
    | none => rfl
    | some s => cases h2
  | some s => cases a' with
    | none => cases h2
    | some s' => exact congrArg (fun s => (c, some s)) (SemLoc.dma.inj h2)

/-- The cells of the whole machine. -/
def ringCells : Finset (GSem nD τ sig) := Finset.univ.map ⟨kcell, kcell_injective⟩

/-- The token of a duty on a device's own cells: three on the barrier's, one on every channel's. -/
def tokOf (x : Dev nD × (Fin 3 ⊕ Ch)) : GSem nD τ sig × ℕ × Fin 3 :=
  match x.2 with
  | .inl d => (bar x.1, 0, d)
  | .inr ch => (cell x.1 ch, 0, 0)
/-- Different duties have different tokens. -/
theorem tokOf_injective : Function.Injective tokOf := by
  rintro ⟨c, a⟩ ⟨c', a'⟩ h
  have h1 : c = c' := by
    have h := congrArg (fun x : GSem nD τ sig × ℕ × Fin 3 => x.1.1.1) h
    cases a <;> cases a' <;> exact h
  subst h1
  have h2 := congrArg (fun x : GSem nD τ sig × ℕ × Fin 3 => (x.1.2, x.2.2)) h
  cases a with
  | inl d => cases a' with
    | inl d' => exact congrArg (fun d => (c, Sum.inl d)) (congrArg Prod.snd h2)
    | inr ch => exact absurd (congrArg Prod.fst h2) (by intro h'; cases h')
  | inr ch => cases a' with
    | inl d' => exact absurd (congrArg Prod.fst h2) (by intro h'; cases h')
    | inr ch' => exact congrArg (fun ch => (c, Sum.inr ch)) (chSem.injective (SemLoc.dma.inj (congrArg Prod.fst h2)))
/-- The tokens of all duties. -/
def ringToks : Finset (GSem nD τ sig × ℕ × Fin 3) := Finset.univ.map ⟨tokOf, tokOf_injective⟩

/-- The ghost state at launch: the pipeline's, and the rounds'. -/
def u₀ : UU :=
  (initOf (Pipeline.cells cfgs cellOf_inj) (Pipeline.launchToks cfgs cellOf_inj), initOf ringCells ringToks)

/-- A conjunction over the cells of a device: the barrier's, and the channels'. -/
theorem sep_slots (P : Option (Fin 39) → sProp 𝕄) :
    bigSep Finset.univ P = iprop(P none ∗ bigSep Finset.univ fun ch : Ch => P (some ch.sem)) := by
  rw [bigSep_univ_equiv ((Equiv.optionEquivSumPUnit (Fin 39)).trans (Equiv.sumComm _ _)).symm P, bigSep_univ_sum,
    bigSep_univ_equiv chSem]
  congr 1
  rw [bigSep_univ_eq_bigSepL [PUnit.unit.{1}] rfl (by decide)]
  rfl

section Deal

variable (m : (ℓ : Loc nD τ sig) → Buf (Elt F) ℓ)

/-- The tokens of the duties on device `c`'s own cells. -/
def toks (c : Dev nD) : sProp 𝕄 :=
  iprop((bigSep Finset.univ fun d : Fin 3 => dutyTok ER (bar c) 0 d) ∗ bigSep Finset.univ fun ch : Ch => dutyTok ER (cell c ch) 0 0)

/-- What the launch deals device `c`. -/
def G (c : Dev nD) : sProp 𝕄 :=
  iprop((bigSep Finset.univ fun k : Option (Fin 39) => roundState ER (Rd m) (kcell (c, k)) 0)
    ∗ (bigSep Finset.univ fun k : Option (Fin 39) => reached ER (kcell (c, k)) 0)
    ∗ (bigSep Finset.univ fun k : Option (Fin 39) => atPos ER (kcell (c, k)) 0 ∅ 0) ∗ toks c)

/-- The initial ghost state gives every device the state, the positions and the tokens of its own cells. -/
theorem fund_cells : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Option (Fin 39) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro H
  imod (Rounds.fund ER (Rd m) ringCells ringToks) $$ H with ⟨Hst, Hr, Hat, Htok⟩
  imodintro
  ihave Hst := (Entails.of_eq (hX fun g => roundState ER (Rd m) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G
  simp only [bigSep_sep']
  iframe

/-- The barrier's semaphore is the launch's one unscoped semaphore. -/
theorem unscopedSems0_eq (c : Dev nD) : (unscopedSems0 c : sProp 𝕄) = semVal (bar c) 0 := by
  unfold unscopedSems0; rw [bigSep_eq_bigSepL_of_eq [SemLoc.reg barrier0] (by decide) (by decide)]; rfl
/-- The kernel's own semaphores are the channels'. -/
theorem ownSems0_eq (c : Dev nD) : (Pipeline.ownSems0 (Ix := Unit) (Name := ℕ) (U := UU) (Lvl := ℕ) (Val := Elt F) (τ := τ) osem c : sProp 𝕄)
    = bigSep Finset.univ fun ch : Ch => semVal (cell c ch) 0 := rfl

/-- What every device knows of the cells. -/
def cellsRec (K : Dev nD × Option (Fin 39) → ℕ) : sProp 𝕄 :=
  bigSep Finset.univ fun ck => iprop(cellInv ER (Rd m) (K ck) (kcell ck) ∗ reached ER (kcell ck) 0)
/-- What every device knows of the cells can be copied. -/
instance cellsRec_persistent (K : Dev nD × Option (Fin 39) → ℕ) : BI.Persistent (cellsRec m K) := by
  unfold cellsRec; infer_instance

/-- One device's cells set up: the invariants over its semaphores. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)) ∗ reached ER (kcell (c, k)) 0))
          ∗ (bigSep Finset.univ fun k : Option (Fin 39) => atPos ER (kcell (c, k)) 0 ∅ 0) ∗ toks c) := by
  have hone (k : Option (Fin 39)) : iprop((semVal (kcell (c, k)) 0 ∗ roundState ER (Rd m) (kcell (c, k)) 0) ∗ reached ER (kcell (c, k)) 0)
      ⊢ (|={Set.univ}=> iprop(∃ κ : ℕ, cellInv ER (Rd m) κ (kcell (c, k)) ∗ reached ER (kcell (c, k)) 0) : sProp 𝕄) := by
    iintro ⟨H, Hr⟩
    imod ((Rounds.body_intro ER (Rd m) (kcell (c, k))).trans inv_alloc) $$ H with ⟨%κ, HI⟩
    imodintro
    iexists κ
    isplitl [HI]; · iexact HI
    iexact Hr
  have hall : iprop(((bigSep Finset.univ fun k => semVal (kcell (c, k)) 0)
        ∗ (bigSep Finset.univ fun k => roundState ER (Rd m) (kcell (c, k)) 0)) ∗ bigSep Finset.univ fun k => reached ER (kcell (c, k)) 0)
      ⊢ (|={Set.univ}=> bigSep Finset.univ fun k => iprop(∃ κ : ℕ, cellInv ER (Rd m) κ (kcell (c, k)) ∗ reached ER (kcell (c, k)) 0) : sProp 𝕄) := by
    rw [← bigSep_sep', ← bigSep_sep']
    exact (bigSep_mono fun k _ => hone k).trans (bigSep_fupd _ _)
  unfold G
  rw [ownSems0_eq, unscopedSems0_eq]
  iintro ⟨Hos, Hus, Hst, Hr, Hat, Htok⟩
  ihave Hv := (show iprop(semVal (bar c) 0 ∗ bigSep Finset.univ fun ch : Ch => semVal (cell c ch) 0)
      ⊢ (bigSep Finset.univ fun k => semVal (kcell (c, k)) 0 : sProp 𝕄) from Entails.of_eq (sep_slots (fun k => (semVal (kcell (c, k)) 0 : sProp 𝕄))).symm) $$ [Hos Hus]
  · iframe
  imod hall $$ [Hv Hst Hr] with H
  · iframe
  imodintro
  iframe

/-! ## The tokens taken to the payers -/

/-- The device whose cell of a channel a device pays: its own for what it starts itself, else the neighbour's. -/
def Ch.peer : Ch → Dev nD → Dev nD
  | .zr _ => zp
  | .pr _ => xp
  | .qr _ => yp
  | .gr k => if k.val < 2 then yp else xp
  | _ => id
/-- The payer of a channel's payer is the device itself. -/
theorem Ch.peer_peer (ch : Ch) (c : Dev nD) : ch.peer (ch.peer c) = c := by
  cases ch with
  | zr k => exact zp_zp c
  | pr k => exact xp_xp c
  | qr k => exact yp_yp c
  | gr k =>
    by_cases h : k.val < 2
    · have e : (Ch.gr k).peer = yp := if_pos h
      rw [e]; exact yp_yp c
    · have e : (Ch.gr k).peer = xp := if_neg h
      rw [e]; exact xp_xp c
  | _ => rfl
/-- A map of the devices that is its own inverse. -/
def swap (f : Dev nD → Dev nD) (h : ∀ c, f (f c) = c) : Dev nD ≃ Dev nD := ⟨f, f, h, h⟩

/-- The tokens of the duties device `c` pays. -/
def payToks (c : Dev nD) : sProp 𝕄 :=
  iprop((dutyTok ER (bar (zp c)) 0 0 ∗ dutyTok ER (bar (xp c)) 0 1 ∗ dutyTok ER (bar (yp c)) 0 2)
    ∗ bigSep Finset.univ fun ch : Ch => dutyTok ER (cell (ch.peer c) ch) 0 0)

/-- A family over the devices, read at each device's partner. -/
theorem sep_swap (f : Dev nD → Dev nD) (h : ∀ c, f (f c) = c) (P : Dev nD → sProp 𝕄) :
    bigSep Finset.univ P = bigSep Finset.univ fun c => P (f c) := bigSep_univ_equiv (swap f h) P

/-- The tokens of all cells, dealt out to the devices that pay the duties. -/
theorem toks_dealt : (bigSep Finset.univ fun c : Dev nD => (toks c : sProp 𝕄)) ⊢ bigSep Finset.univ fun c : Dev nD => payToks c := by
  have hch : (bigSep Finset.univ fun c : Dev nD => bigSep Finset.univ fun ch : Ch => (dutyTok ER (cell c ch) 0 0 : sProp 𝕄))
      = bigSep Finset.univ fun c : Dev nD => bigSep Finset.univ fun ch : Ch => dutyTok ER (cell (ch.peer c) ch) 0 0 := by
    rw [Pipeline.bigSep_univ_comm, Pipeline.bigSep_univ_comm (fun (c : Dev nD) (ch : Ch) => (dutyTok ER (cell (ch.peer c) ch) 0 0 : sProp 𝕄))]
    exact bigSep_congr fun ch _ => sep_swap ch.peer ch.peer_peer _
  unfold toks payToks
  simp only [sep_three]
  rw [bigSep_sep', bigSep_sep', bigSep_sep', bigSep_sep', bigSep_sep', bigSep_sep', hch,
    sep_swap zp zp_zp (fun c => (dutyTok ER (bar c) 0 0 : sProp 𝕄)), sep_swap xp xp_xp (fun c => (dutyTok ER (bar c) 0 1 : sProp 𝕄)),
    sep_swap yp yp_yp (fun c => (dutyTok ER (bar c) 0 2 : sProp 𝕄))]

/-- What stays with device `c`: its positions, and the tokens of the duties it pays. -/
def linear (c : Dev nD) : sProp 𝕄 :=
  iprop((bigSep Finset.univ fun k : Option (Fin 39) => atPos ER (kcell (c, k)) 0 ∅ 0) ∗ payToks c)
/-- What the set-up of the whole machine leaves device `c`. -/
def G' (c : Dev nD) : sProp 𝕄 := iprop(∃ K, cellsRec m K ∗ linear c)

/-- The invariants of all cells are known to every device, and the tokens go to the devices that pay. -/
theorem regroup :
    (bigSep Finset.univ fun c : Dev nD => iprop((bigSep Finset.univ fun k => iprop(∃ κ : ℕ, cellInv ER (Rd m) κ (kcell (c, k)) ∗ reached ER (kcell (c, k)) 0))
          ∗ (bigSep Finset.univ fun k : Option (Fin 39) => atPos ER (kcell (c, k)) 0 ∅ 0) ∗ toks c) : sProp 𝕄)
      ⊢ bigSep Finset.univ (G' m) := by
  rw [bigSep_sep', bigSep_sep',
    ← bigSep_univ_prod (fun ck : Dev nD × Option (Fin 39) => iprop(∃ κ : ℕ, cellInv ER (Rd m) κ (kcell ck) ∗ reached ER (kcell ck) 0))]
  iintro ⟨HI, Hat, Htok⟩
  ihave HK := (BI.bigSep_exists_pi Finset.univ (fun (ck : Dev nD × Option (Fin 39)) (κ : ℕ) =>
    (iprop(cellInv ER (Rd m) κ (kcell ck) ∗ reached ER (kcell ck) 0) : sProp 𝕄))) $$ HI
  icases HK with ⟨%K, HI⟩
  ihave HI := (show (bigSep Finset.univ fun ck => iprop(cellInv ER (Rd m) (K ck) (kcell ck) ∗ reached ER (kcell ck) 0)) ⊢ cellsRec m K from .rfl) $$ HI
  icases HI with #HI
  ihave Htok := (toks_dealt (F := F)) $$ Htok
  iapply (bigSep_with_persistent (R := cellsRec m K) (Φ := linear) (Ψ := G' m) (S := Finset.univ) fun c _ => by
    unfold G'
    iintro ⟨H, Hl⟩
    iexists K
    iframe)
  isplitr; · iexact HI
  unfold linear
  rw [bigSep_sep']
  isplitl [Hat]; · iexact Hat
  iexact Htok

/-- The set-up of the whole machine: the semaphores of every device at once. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Deal

/-! ## The credits -/

/-- What a list of debts leaves a device to be paid, every debt being to a partner. -/
def credsOf (c : Dev nD) : List Due → sProp 𝕄
  | [] => iprop(emp)
  | p :: l => iprop(cred (tallyAt ((c : Thread nD τ), p.2.1) () p.2.2) ∗ credsOf c l)

/-- A device's credits at launch are those of the list of debts. -/
theorem launch_creds (c : Dev nD) : (l : List Due) → (∀ p ∈ l, ∀ d, p.1 (p.1 d) = d) →
    ((Pipeline.launchCred (fun d => owe d l) c : sProp 𝕄) ⊢ credsOf c l)
  | [], _ => Entails.of_eq (Pipeline.launchCred_zero c)
  | p :: l, h => by
    refine (Entails.of_eq (Pipeline.launchCred_add (fun d => owe d l) (fun d => tallyAt ((p.1 d : Thread nD τ), p.2.1) () p.2.2) c)).trans ?_
    unfold credsOf
    have h1 := Pipeline.launchCred_tallyAt (Val := Elt F) (Name := ℕ) (U := UU) (Lvl := ℕ) (τ := τ) p.2.1 p.1 p.1
      (h p List.mem_cons_self) (h p List.mem_cons_self) () p.2.2 c
    have h2 := launch_creds c l fun q hq => h q (List.mem_cons_of_mem _ hq)
    iintro ⟨H2, H1⟩
    ihave H1 := h1 $$ H1
    ihave H2 := h2 $$ H2
    iframe

/-- Every debt is to a partner. -/
theorem dues_swap : ∀ p ∈ dues, ∀ d, p.1 (p.1 d) = d := by
  intro p hp d
  simp only [dues, List.mem_cons, List.not_mem_nil, or_false] at hp
  rcases hp with rfl | rfl | rfl | rfl | rfl | rfl | rfl | rfl | rfl | rfl | rfl | rfl | rfl | rfl | rfl | rfl | rfl | rfl | rfl <;>
    first | exact zp_zp d | exact xp_xp d | exact yp_yp d

/-- The three units owed to a barrier are one credit. -/
theorem bar_cred (c : Dev nD) : iprop(cred (tallyAt (bar c) () 1) ∗ cred (tallyAt (bar c) () 1) ∗ cred (tallyAt (bar c) () 1))
    ⊢ (cred (tallyAt (bar c) () 3) : sProp 𝕄) := by
  have e : (tallyAt (bar c) () 3 : CellTallies nD τ sig Unit) = tallyAt (bar c) () 1 + (tallyAt (bar c) () 1 + tallyAt (bar c) () 1) := by
    rw [tallyAt_add, tallyAt_add]
  rw [e]
  exact (sep_mono_right (cred_add _ _).2).trans (cred_add _ _).2

/-- The positions, channel by channel. -/
theorem pos_all (c : Dev nD) : (bigSep Finset.univ (fun ch : Ch => atPos ER (cell c ch) 0 ∅ 0) : sProp 𝕄) = iprop(atPos ER (cell c .inX) 0 ∅ 0 ∗ atPos ER (cell c (.inD 0)) 0 ∅ 0 ∗ atPos ER (cell c (.inD 1)) 0 ∅ 0 ∗ atPos ER (cell c (.out 0)) 0 ∅ 0
      ∗ atPos ER (cell c (.out 1)) 0 ∅ 0 ∗ atPos ER (cell c (.out 2)) 0 ∅ 0 ∗ atPos ER (cell c (.out 3)) 0 ∅ 0 ∗ atPos ER (cell c (.zs 0)) 0 ∅ 0
      ∗ atPos ER (cell c (.zs 1)) 0 ∅ 0 ∗ atPos ER (cell c (.zs 2)) 0 ∅ 0 ∗ atPos ER (cell c (.zs 3)) 0 ∅ 0 ∗ atPos ER (cell c (.zr 0)) 0 ∅ 0
      ∗ atPos ER (cell c (.zr 1)) 0 ∅ 0 ∗ atPos ER (cell c (.zr 2)) 0 ∅ 0 ∗ atPos ER (cell c (.zr 3)) 0 ∅ 0 ∗ atPos ER (cell c (.ps 0)) 0 ∅ 0
      ∗ atPos ER (cell c (.ps 1)) 0 ∅ 0 ∗ atPos ER (cell c (.ps 2)) 0 ∅ 0 ∗ atPos ER (cell c (.ps 3)) 0 ∅ 0 ∗ atPos ER (cell c (.pr 0)) 0 ∅ 0
      ∗ atPos ER (cell c (.pr 1)) 0 ∅ 0 ∗ atPos ER (cell c (.pr 2)) 0 ∅ 0 ∗ atPos ER (cell c (.pr 3)) 0 ∅ 0 ∗ atPos ER (cell c (.qs 0)) 0 ∅ 0
      ∗ atPos ER (cell c (.qs 1)) 0 ∅ 0 ∗ atPos ER (cell c (.qs 2)) 0 ∅ 0 ∗ atPos ER (cell c (.qs 3)) 0 ∅ 0 ∗ atPos ER (cell c (.qr 0)) 0 ∅ 0
      ∗ atPos ER (cell c (.qr 1)) 0 ∅ 0 ∗ atPos ER (cell c (.qr 2)) 0 ∅ 0 ∗ atPos ER (cell c (.qr 3)) 0 ∅ 0 ∗ atPos ER (cell c (.gs 0)) 0 ∅ 0
      ∗ atPos ER (cell c (.gs 1)) 0 ∅ 0 ∗ atPos ER (cell c (.gs 2)) 0 ∅ 0 ∗ atPos ER (cell c (.gs 3)) 0 ∅ 0 ∗ atPos ER (cell c (.gr 0)) 0 ∅ 0
      ∗ atPos ER (cell c (.gr 1)) 0 ∅ 0 ∗ atPos ER (cell c (.gr 2)) 0 ∅ 0 ∗ atPos ER (cell c (.gr 3)) 0 ∅ 0) :=
  (sep_ch _).trans rfl
/-- The tokens a device pays with, channel by channel. -/
theorem pays_all (c : Dev nD) : (bigSep Finset.univ (fun ch : Ch => dutyTok ER (cell (ch.peer c) ch) 0 0) : sProp 𝕄) = iprop(dutyTok ER (cell c .inX) 0 0 ∗ dutyTok ER (cell c (.inD 0)) 0 0 ∗ dutyTok ER (cell c (.inD 1)) 0 0 ∗ dutyTok ER (cell c (.out 0)) 0 0
      ∗ dutyTok ER (cell c (.out 1)) 0 0 ∗ dutyTok ER (cell c (.out 2)) 0 0 ∗ dutyTok ER (cell c (.out 3)) 0 0 ∗ dutyTok ER (cell c (.zs 0)) 0 0
      ∗ dutyTok ER (cell c (.zs 1)) 0 0 ∗ dutyTok ER (cell c (.zs 2)) 0 0 ∗ dutyTok ER (cell c (.zs 3)) 0 0 ∗ dutyTok ER (cell (zp c) (.zr 0)) 0 0
      ∗ dutyTok ER (cell (zp c) (.zr 1)) 0 0 ∗ dutyTok ER (cell (zp c) (.zr 2)) 0 0 ∗ dutyTok ER (cell (zp c) (.zr 3)) 0 0 ∗ dutyTok ER (cell c (.ps 0)) 0 0
      ∗ dutyTok ER (cell c (.ps 1)) 0 0 ∗ dutyTok ER (cell c (.ps 2)) 0 0 ∗ dutyTok ER (cell c (.ps 3)) 0 0 ∗ dutyTok ER (cell (xp c) (.pr 0)) 0 0
      ∗ dutyTok ER (cell (xp c) (.pr 1)) 0 0 ∗ dutyTok ER (cell (xp c) (.pr 2)) 0 0 ∗ dutyTok ER (cell (xp c) (.pr 3)) 0 0 ∗ dutyTok ER (cell c (.qs 0)) 0 0
      ∗ dutyTok ER (cell c (.qs 1)) 0 0 ∗ dutyTok ER (cell c (.qs 2)) 0 0 ∗ dutyTok ER (cell c (.qs 3)) 0 0 ∗ dutyTok ER (cell (yp c) (.qr 0)) 0 0
      ∗ dutyTok ER (cell (yp c) (.qr 1)) 0 0 ∗ dutyTok ER (cell (yp c) (.qr 2)) 0 0 ∗ dutyTok ER (cell (yp c) (.qr 3)) 0 0 ∗ dutyTok ER (cell c (.gs 0)) 0 0
      ∗ dutyTok ER (cell c (.gs 1)) 0 0 ∗ dutyTok ER (cell c (.gs 2)) 0 0 ∗ dutyTok ER (cell c (.gs 3)) 0 0 ∗ dutyTok ER (cell (yp c) (.gr 0)) 0 0
      ∗ dutyTok ER (cell (yp c) (.gr 1)) 0 0 ∗ dutyTok ER (cell (xp c) (.gr 2)) 0 0 ∗ dutyTok ER (cell (xp c) (.gr 3)) 0 0) :=
  (sep_ch _).trans rfl

set_option maxHeartbeats 4000000 in
/-- The credits, the positions and the tokens of a device are what it holds of the channels. -/
theorem held_intro (c : Dev nD) :
    iprop(credsOf c dues ∗ (bigSep Finset.univ fun ch : Ch => atPos ER (cell c ch) 0 ∅ 0)
        ∗ bigSep Finset.univ fun ch : Ch => dutyTok ER (cell (ch.peer c) ch) 0 0)
      ⊢ (iprop(cred (tallyAt (bar c) () 3) ∗ bigSep Finset.univ (held c)) : sProp 𝕄) := by
  unfold dues credsOf credsOf credsOf credsOf credsOf credsOf credsOf credsOf credsOf credsOf credsOf credsOf credsOf credsOf credsOf credsOf
    credsOf credsOf credsOf credsOf
  rw [held_all, pos_all, pays_all]
  unfold snd pend cpy
  iintro ⟨⟨B0, B1, B2, Czr0, Czr1, Czr2, Czr3, Cpr0, Cqr0, Cpr1, Cqr1, Cpr2, Cqr2, Cpr3, Cqr3, Cgr0, Cgr1, Cgr2, Cgr3, -⟩, ⟨AinX, AinD0, AinD1, Aout0, Aout1, Aout2, Aout3, Azs0, Azs1, Azs2, Azs3, Azr0, Azr1, Azr2, Azr3, Aps0, Aps1, Aps2, Aps3, Apr0, Apr1, Apr2, Apr3, Aqs0, Aqs1, Aqs2, Aqs3, Aqr0, Aqr1, Aqr2, Aqr3, Ags0, Ags1, Ags2, Ags3, Agr0, Agr1, Agr2, Agr3⟩, ⟨TinX, TinD0, TinD1, Tout0, Tout1, Tout2, Tout3, Tzs0, Tzs1, Tzs2, Tzs3, Tzr0, Tzr1, Tzr2, Tzr3, Tps0, Tps1, Tps2, Tps3, Tpr0, Tpr1, Tpr2, Tpr3, Tqs0, Tqs1, Tqs2, Tqs3, Tqr0, Tqr1, Tqr2, Tqr3, Tgs0, Tgs1, Tgs2, Tgs3, Tgr0, Tgr1, Tgr2, Tgr3⟩⟩
  ihave B := (bar_cred c) $$ [B0 B1 B2]
  · iframe
  iframe

end Cert.KernelIdeal.Scatter
-- ==== Proof.Launch.lean ====
module

public import proofs.«01_k».proof.Proof.Deal
public import Idealize.ShloMosaic.Lib.Pipeline.CollectiveSegs

/-! The launch: every device's run of the kernel put together into a run of the whole mesh. -/

@[expose] public section

noncomputable section

namespace Cert.KernelIdeal.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Launch

variable (m : (ℓ : Loc nD τ sig) → Buf (Elt F) ℓ) (ρ : Dev nD → PrngReg)

/-! ## What a device holds around the region -/

/-- What device `c` brings to the region, besides what it owes and the scratch buffers. -/
def start (c : Dev nD) : sProp 𝕄 :=
  iprop((∃ K, recs m K) ∗ (cred (tallyAt (bar c) () 3) ∗ atPos ER (bar c) 0 ∅ 0)
    ∗ (dutyTok ER (bar (zp c)) 0 0 ∗ dutyTok ER (bar (xp c)) 0 1 ∗ dutyTok ER (bar (yp c)) 0 2)
    ∗ bigSep Finset.univ (held c)
    ∗ (ownsTc c aM fullShare (xin m c) ∗ ownsTc c bM fullShare (yin m c) ∗ ownsAny c rM))
/-- What device `c` takes out of the region, besides the scratch buffers. -/
def stop (c : Dev nD) : sProp 𝕄 :=
  iprop((semVal (bar c) 0 ∗ bigSep Finset.univ (fun ch : Ch => semVal (cell c ch) 0))
    ∗ (ownsTc c aM fullShare (xin m c) ∗ ownsTc c bM fullShare (yin m c) ∗ finished m c))
/-- What device `c` owes at launch. -/
def O₀ (c : Dev nD) : CellTallies nD τ sig Unit := owe c dues

/-- The region's proof data: it has no windows; before its one point a device owes everything, after it nothing. -/
def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => iprop(start m c ∗ scratch c)
    | ⟨_ + 1, _⟩ => iprop(stop m c ∗ scratch c)
  q _ := fullShare
  owed t := match t with
    | ⟨0, _⟩ => O₀ c
    | ⟨_ + 1, _⟩ => 0

/-- There are no windows to hold. -/
theorem sep_windows (Φ : Fin cfg0.W → sProp 𝕄) : bigSep Finset.univ Φ = iprop(emp) := by
  rw [show (Finset.univ : Finset (Fin cfg0.W)) = ∅ from rfl, bigSep_empty]
  rfl

/-- What the region's one point starts from. -/
def atStart (c : Dev nD) : sProp 𝕄 :=
  iprop((start m c ∗ scratch c) ∗ (dats m 0 c).owesAt () t0_0.castSucc ∗ emp)
/-- What the region's one point ends in. -/
def atStop (c : Dev nD) : sProp 𝕄 :=
  iprop((stop m c ∗ scratch c) ∗ (dats m 0 c).owesAt () t0_0.succ ∗ emp)

/-- At the start a device owes all its debts. -/
theorem owes_start (c : Dev nD) : ((dats m 0 c).owesAt () t0_0.castSucc : sProp 𝕄) ⊢ ow c dues := by
  unfold Pipeline.Dat.owesAt Pipeline.owesWithin ow
  iintro ⟨%W, %hW, H⟩
  iexists W
  iexact H
/-- At the end a device owes nothing. -/
theorem owes_stop (c : Dev nD) : ow c [] ⊢ ((dats m 0 c).owesAt () t0_0.succ : sProp 𝕄) := by
  unfold Pipeline.Dat.owesAt Pipeline.owesWithin ow
  iintro ⟨%W, H⟩
  iexists W
  isplitr
  · ipureintro; exact fun _ _ => Or.inl trivial
  iexact H

set_option maxRecDepth 8000 in
/-- The kernel's body at the region's one point. -/
theorem body_obligation (c : Dev nD) : Pipeline.BodyObligation (dats (F := F) m 0 c) (defs₀ (F := F)) 𝒱₀ () Set.univ := fun t => by
  rw [fin_N0 t, sep_windows, sep_windows]
  show atStart m c ⊢ run c (onBufs (cc0_body (F := F))) (fun _ => atStop m c)
  unfold atStart start
  iintro ⟨⟨⟨⟨%K, #HR⟩, Hb, Ht, Hh, Ha⟩, Hs⟩, Ho, -⟩
  ihave Ho := (owes_start m c) $$ Ho
  iapply (body_run m K c fun _ => atStop m c) $$ HR [Hb Ht Hh Ha Hs Ho]
  · unfold before
    iframe
  unfold after atStop stop
  iintro ⟨Ho, Hz, Ha, Hs⟩
  ihave Ho := (owes_stop m c) $$ Ho
  iframe

/-! ## The launch's side conditions -/

/-- Every window has the full share: there is none. -/
theorem share_eq (c : Dev nD) (w : Fin cfg0.W) : (dats (F := F) m 0 c).share w = fullShare := w.elim0
/-- The pipeline itself waits for nothing. -/
theorem waits (c : Dev nD) : (levAts L lv : sProp 𝕄) ⊢ Pipeline.cellsWaits cfgs (dats m) () 0 c :=
  Pipeline.cellsWaits_intro cfgs (dats m) () 0 c fun w s t => w.elim0

/-- The credits, positions and tokens of a device, sorted by barrier and channel. -/
theorem linear_held (c : Dev nD) : iprop(credsOf c dues ∗ linear c)
    ⊢ (iprop((cred (tallyAt (bar c) () 3) ∗ atPos ER (bar c) 0 ∅ 0)
      ∗ (dutyTok ER (bar (zp c)) 0 0 ∗ dutyTok ER (bar (xp c)) 0 1 ∗ dutyTok ER (bar (yp c)) 0 2)
      ∗ bigSep Finset.univ (held c)) : sProp 𝕄) := by
  unfold linear payToks
  rw [sep_slots]
  iintro ⟨Hc, ⟨Hab, Ha⟩, Ht, Hd⟩
  ihave H := (held_intro c) $$ [Hc Ha Hd]
  · iframe
  icases H with ⟨Hb, Hh⟩
  iframe

/-- What the launch gives a device is what it brings to the region. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hb, Hr⟩, #Hlev, Hcr, -, HG⟩
  ihave Hc := (show (Pipeline.launchCred O₀ c : sProp 𝕄) ⊢ credsOf c dues from launch_creds c dues dues_swap) $$ Hcr
  unfold G'
  icases HG with ⟨%K, #HK, Hl⟩
  ihave H := (linear_held c) $$ [Hc Hl]
  · iframe
  icases H with ⟨H1, H2, H3⟩
  imodintro
  unfold start ownsAny
  simp only [ownsTc, owns_whole]
  isplitl
  · isplitr
    · iexists K
      unfold recs cellsRec
      isplitr
      · iexact HK
      · iexact Hlev
    isplitl [H1]; · iexact H1
    isplitl [H2]; · iexact H2
    isplitl [H3]; · iexact H3
    isplitl [Ha]; · iexact Ha
    isplitl [Hb]; · iexact Hb
    iexists _
    iexact Hr
  · iempintro

/-- The region's scoped buffers are the kernel's scratch buffers. -/
theorem scratch_eq (c : Dev nD) : (Pipeline.scopedRest cfg0.spec c : sProp 𝕄) = scratch c := by
  rw [scopedRest0_eq]
  unfold scratch ownsAny
  simp only [ownsTc, owns_whole]
  rfl

/-- What a device brings to the region, with the scratch buffers, is what the region starts from. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  iframe

/-- What device `c` is left with at the end, besides the kernel's own semaphores and scratch buffers. -/
def left (c : Dev nD) : sProp 𝕄 :=
  iprop(unscopedSems0 c ∗ ownsTc c aM fullShare (xin m c) ∗ ownsTc c bM fullShare (yin m c) ∗ finished m c)

/-- What the region ends in is what the device is left with, its own semaphores and the scratch buffers. -/
theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = iprop(stop m c ∗ scratch c) from rfl, scratch_eq, ownSems0_eq]
  unfold stop left
  rw [unscopedSems0_eq]
  iintro ⟨⟨⟨Hb, Hz⟩, Ha⟩, Hs⟩
  iframe

/-! ## The run -/

/-- What the memory of device `c` holds at the end: the arguments as they were, and each quarter of the result finished. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∃ V : Vec F S256x2048 .f32, s.mem ((c : Thread nD τ).loc main_v1) = V
      ∧ ∀ j : Fin 4, (fun x => V ((quartR c j).emb x)) = quart m c j

/-- A whole buffer that is held is what the memory holds. -/
theorem read_whole (c : Dev nD) (b : Ref sig .tc) (f : Buf (Elt F) ((c : Thread nD τ).loc b)) (s : Phys nD τ sig (Elt F)) :
    iprop((((c : Thread nD τ).loc b) ↦{fullShare} f) ∗ SI s) ⊢ (iprop(⌜s.mem.mem ((c : Thread nD τ).loc b) = f⌝ ∗ SI s) : sProp 𝕄) := by
  iintro ⟨H, HSI⟩
  icombine HSI H gives %h
  isplitr
  · ipureintro; exact Buf.eq_of_forall_mem_univ h
  iexact HSI

/-- What a device is left with tells what its memory and semaphores hold at the end. -/
theorem left_read (c : Dev nD) (s : Phys nD τ sig (Elt F)) : iprop(left m c ∗ emp ∗ SI s)
    ⊢ |={Set.univ}=> (iprop(⌜(∀ sm : SemLoc sig, sm.isScoped .tc = false → s.mem.sem ((c.tc : Thread nD τ), sm) = 0) ∧ Ends m c s.mem⌝ ∗ SI s) : sProp 𝕄) := by
  unfold left finished
  simp only [ownsTc, owns_whole]
  iintro ⟨⟨Hu, Ha, Hb, %V, %hV, Hr⟩, -, HSI⟩
  ihave H := (read_whole c main_arg0 (xin m c) s) $$ [Ha HSI]
  · iframe
  icases H with ⟨%ha, HSI⟩
  ihave H := (read_whole c main_arg1 (yin m c) s) $$ [Hb HSI]
  · iframe
  icases H with ⟨%hb, HSI⟩
  ihave H := (read_whole c main_v1 V s) $$ [Hr HSI]
  · iframe
  icases H with ⟨%hr, HSI⟩
  imod (Pipeline.unscopedSems0_read (X := unscopedSems0 c) (c := c) fupd_intro s) $$ [Hu HSI] with ⟨%hs, HSI⟩
  · iframe
  imodintro
  isplitr
  · ipureintro
    exact ⟨hs, ha, hb, V, hr, hV⟩
  iexact HSI

set_option maxRecDepth 8000 in
/-- From any memory with every semaphore at zero, for any float values: every weakly fair run of the mesh of eight devices
    ends; every device's arguments are as they were, each quarter of its result is the finished quarter, and every
    semaphore is at zero. -/
theorem run_main : θ_run defs (onTc (τ := τ) (main (F := F))) ⟨m, fun _ => 0, ρ⟩
    (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := enter m) (hout := leave m)
    (QY := fun c s => (∀ sm : SemLoc sig, sm.isScoped .tc = false → s.sem ((c.tc : Thread nD τ), sm) = 0) ∧ Ends m c s)
    (hY := left_read m)
    (hQ := fun _ h hs => ⟨fun c => (h c).2.2.2, sem_eq_zero hs fun c => (h c).2.2.1⟩)

end Launch

end Cert.KernelIdeal.Scatter
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! The frame claims: each program runs, leaves its arguments as they were, and every semaphore at zero. -/

@[expose] public section

noncomputable section

namespace Cert.Frames

open Idealize.ShloMosaic Idealize.ShloMosaic.TcCoe Idealize.SL.Sem

/-- The kernel at ideal values runs, leaves its arguments, and every semaphore at zero. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩)
    (Cert.KernelIdeal.Scatter.run_main (F := Ideal) m ρ)

/-- The kernel as printed, at bit patterns, runs, leaves its arguments, and every semaphore at zero: its text is the same. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩)
    (Cert.KernelIdeal.Scatter.run_main (F := Bits) m ρ)

/-- The reference runs, leaves its arguments, and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Frames

end
-- ==== Proof.Value.lean ====
module

public import proofs.«01_k».proof.Defs
public import proofs.«01_k».proof.Proof.Launch
public import proofs.«01_k».proof.Proof.Gen.ReferenceIdeal.Run
public import Idealize.ShloMosaic.Lib.ValueIdx
public import Idealize.ShloMosaic.Lib.StackMember
public import Idealize.ShloMosaic.Lib.Pipeline.Value

/-! The value claim: at the ideal values every device's result is its block of the reference's product. -/

@[expose] public section

noncomputable section

namespace Cert.KernelIdeal.Scatter

open Cert.KernelIdeal Cert.KernelIdeal.Gen
open Idealize.ShloMosaic
open Idealize.ShloMosaic.TcCoe
open Idealize.SL.Sem
open Idealize.ShloMosaic.ValueIdx

/-! ## Products read at an index -/

section Products

variable {K M N : ℕ} (d : DotDims ⟨2, ![K, M]⟩ ⟨2, ![K, N]⟩ ⟨2, ![M, N]⟩)

/-- A product that contracts the first axis of both operands, into zeros, read at an index: the sum over the contracted
    coordinate of the products of the entries. -/
theorem matmul_firsts (w : DotDims.WF ⟨2, ![K, M]⟩ ⟨2, ![K, N]⟩ ⟨2, ![M, N]⟩ [0] [0] [1] [1] [] [])
    (hd : d = ⟨[0], [0], [1], [1], [], [], w⟩) (x : FVec Ideal ⟨2, ![K, M]⟩ .f32) (y : FVec Ideal ⟨2, ![K, N]⟩ .f32)
    (r : Fin M) (n : Fin N) :
    matmul d none x y (constant ⟨2, ![M, N]⟩ .f32 0x00000000#32) (ix2 r n) = ∑ k : Fin K, x (ix2 k r) * y (ix2 k n) := by
  subst hd
  show FloatOps.matmul _ none x y (constant ⟨2, ![M, N]⟩ .f32 0x00000000#32) (ix2 r n) = _
  rw [Ideal.matmul_constant_zero_apply, ← Equiv.sum_comp (contrEquiv1 _ K rfl rfl).symm]
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  congr 1
  · refine congrArg x (funext fun ax => Fin.ext ?_)
    match ax with
    | ⟨0, _⟩ => simp [DotDims.lhsIdx]; exact hk
    | ⟨1, _⟩ => simp [DotDims.lhsIdx]; rfl
  · refine congrArg y (funext fun ax => Fin.ext ?_)
    match ax with
    | ⟨0, _⟩ => simp [DotDims.rhsIdx]; exact hk
    | ⟨1, _⟩ => simp [DotDims.rhsIdx]; rfl

end Products

/-! ## The two halves of the contraction -/

section Halves

variable (A : FVec Ideal ⟨2, ![1024, 512]⟩ .f32) (B : FVec Ideal ⟨2, ![1024, 2048]⟩ .f32)

/-- Row `k` of half `h` of the contracted rows. -/
def hrow (h : Fin 2) (k : Fin 512) : Fin 1024 := ⟨h.val * 512 + k.val, by omega⟩

/-- The part of the reference's entry at row `r` and column `n` that half `h` of the contracted rows gives. -/
def half (h : Fin 2) (r : Fin 512) (n : Fin 2048) : EReal :=
  ∑ k : Fin 512, A (ix2 (hrow h k) r) * B (ix2 (hrow h k) n)

/-- The reference's result. -/
def refVal : FVec Ideal ⟨2, ![512, 2048]⟩ .f32 :=
  Host.dotGeneral Cert.ReferenceIdeal.dot_S512x1024_S1024x2048_S512x2048_1_0_0_1_n_n none
    (transpose Cert.ReferenceIdeal.S512x1024 [1, 0] A Cert.ReferenceIdeal.Gen.transposes_S1024x512_S512x1024_1_0) B

/-- The reference's entry is the sum of its two halves, in either order. -/
theorem refVal_at (h : Fin 2) (r : Fin 512) (n : Fin 2048) :
    refVal A B (ix2 r n) = half A B h r n + half A B (1 - h) r n := by
  have ht : ∀ k : Fin 1024, transpose Cert.ReferenceIdeal.S512x1024 [1, 0] A
      Cert.ReferenceIdeal.Gen.transposes_S1024x512_S512x1024_1_0 (ix2 r k) = A (ix2 k r) := fun k =>
    transpose_apply _ A _ _ (ix2 k r) fun b => by
      match b with
      | ⟨0, _⟩ => rfl
      | ⟨1, _⟩ => rfl
  have e : refVal A B (ix2 r n) = half A B 0 r n + half A B 1 r n := by
    refine (StackMember.dotGeneral_plain_apply (m := 512) (k := 1024) (n := 2048) none _ B r n).trans ?_
    simp only [ht]
    refine (Fin.sum_univ_add (a := 512) (b := 512) fun k => A (ix2 k r) * B (ix2 k n)).trans ?_
    have e0 : ∀ k : Fin 512, Fin.castAdd 512 k = hrow 0 k := fun k => Fin.ext (by simp [hrow])
    have e1 : ∀ k : Fin 512, Fin.natAdd 512 k = hrow 1 k := fun k => Fin.ext (by simp [hrow]; omega)
    simp only [e0, e1]
    rfl
  rw [e]
  match h with
  | 0 => rfl
  | 1 => exact add_comm _ _

end Halves

/-! ## What the buffers hold, read at an index -/

section Entries

variable (m : (ℓ : Loc nD τ sig) → Buf (Elt Ideal) ℓ)
variable (A : FVec Ideal ⟨2, ![1024, 512]⟩ .f32) (B : FVec Ideal ⟨2, ![1024, 2048]⟩ .f32)

/-- The half of the contracted rows that device `c` holds. -/
def zc (c : Dev nD) : Fin 2 := ⟨c.val % 2, by omega⟩

/-- The neighbour along the last axis holds the other half of the rows. -/
theorem zc_zp (c : Dev nD) : zc (zp c) = 1 - zc c := by revert c; decide
/-- The neighbour along the last axis has the same first coordinate. -/
theorem zp_div (c : Dev nD) : (zp c).val / 4 = c.val / 4 := by revert c; decide
/-- The neighbour along the last axis has the other last coordinate. -/
theorem zp_mod (c : Dev nD) : (zp c).val % 2 = 1 - c.val % 2 := by revert c; decide
/-- The devices that chunks come from hold the same half of the rows. -/
theorem zc_via (c : Dev nD) (j : Fin 4) : zc (via c j) = zc c := by revert c j; decide
/-- The quarter that a turn finishes is the one named by the coordinates of the device its chunks come from. -/
theorem qnum_via (c : Dev nD) (j : Fin 4) : 2 * ((via c j).val / 4) + ((via c j).val / 2) % 2 = qnum c j := by
  revert c j; decide
/-- There are four quarters. -/
theorem qnum_lt (c : Dev nD) (j : Fin 4) : qnum c j < 4 := by revert c j; decide
/-- The block of the rows that the layout gives a device is its half. -/
theorem meshLin_zc (c : Dev nD) : Layout.meshLin [2, 2, 2] c.val [2] = (zc c).val := by revert c; decide

/-- Every device holds its half of the rows of the two arguments. -/
structure Agree : Prop where
  x : ∀ (c : Dev nD) (k : Fin 512) (r : Fin 512), xin m c (ix2 k r) = A (ix2 (hrow (zc c) k) r)
  y : ∀ (c : Dev nD) (k : Fin 512) (n : Fin 2048), yin m c (ix2 k n) = B (ix2 (hrow (zc c) k) n)

variable {m A B} (hag : Agree m A B)
include hag

/-- The columns a device packs the products of, read at an index. -/
theorem xpack_at (c : Dev nD) (k : Fin 512) (r : Fin 128) (q : Fin 512)
    (hq : q.val = 128 * (c.val / 4) + 256 - 256 * (c.val % 2) + r.val) :
    xpack m c (ix2 k r) = A (ix2 (hrow (zc c) k) q) := by
  rw [← hag.x c k q]
  refine congrArg (xin m c) (funext fun ax => Fin.ext ?_)
  rw [Rect.emb_apply]
  match ax with
  | ⟨0, _⟩ => simp [k0_off1_eq]
  | ⟨1, _⟩ => simp [k0_off1_eq, hq]

/-- The columns a device keeps the products of, read at an index. -/
theorem xkeep_at (c : Dev nD) (k : Fin 512) (r : Fin 256) (q : Fin 512) (hq : q.val = 256 * (c.val % 2) + r.val) :
    xkeep m c (ix2 k r) = A (ix2 (hrow (zc c) k) q) := by
  rw [← hag.x c k q]
  refine congrArg (xin m c) (funext fun ax => Fin.ext ?_)
  rw [Rect.emb_apply]
  match ax with
  | ⟨0, _⟩ => simp [k0_off3_eq]
  | ⟨1, _⟩ => simp [k0_off3_eq, hq]

/-- Half of the columns of the second argument's block, read at an index. -/
theorem yhalf_at (c : Dev nD) (h : Fin 2) (k : Fin 512) (n : Fin 1024) (n' : Fin 2048) (hn : n'.val = 1024 * h.val + n.val) :
    yhalf m c h (ix2 k n) = B (ix2 (hrow (zc c) k) n') := by
  rw [← hag.y c k n']
  refine congrArg (yin m c) (funext fun ax => Fin.ext ?_)
  rw [Rect.emb_apply]
  match ax with
  | ⟨0, _⟩ => simp
  | ⟨1, _⟩ => simp [hn]

/-- One half of the packed block, read at an index: a half sum of the reference. -/
theorem packHalf_at (c : Dev nD) (h : Fin 2) (a : Fin 8) (b : Fin 16) (n : Fin 1024) (q : Fin 512) (n' : Fin 2048)
    (hq : q.val = 128 * (c.val / 4) + 256 - 256 * (c.val % 2) + (16 * a.val + b.val)) (hn : n'.val = 1024 * h.val + n.val) :
    packHalf m c h (ix3 a b n) = half A B (zc c) q n' := by
  have hr : 16 * a.val + b.val < 128 := by omega
  unfold packHalf k0_pay1
  rw [shapeCast_self]
  refine (shapeCast_apply _ _ (ix3 a b n) (ix2 (⟨16 * a.val + b.val, hr⟩ : Fin 128) n) ?_).trans ?_
  · rw [Shape.rowMajor_val_two, Shape.rowMajor_val_three]
    show (16 * a.val + b.val) * 1024 + n.val = (a.val * 16 + b.val) * 1024 + n.val
    omega
  refine (matmul_firsts _ _ rfl (xpack m c) (yhalf m c h) ⟨16 * a.val + b.val, hr⟩ n).trans ?_
  refine Finset.sum_congr rfl fun k _ => ?_
  rw [xpack_at hag c k _ q hq, yhalf_at hag c h k n n' hn]

/-- The packed block, read at an index: a half sum of the reference. -/
theorem packed_at (c : Dev nD) (a : Fin 8) (b : Fin 16) (n : Fin 2048) (q : Fin 512)
    (hq : q.val = 128 * (c.val / 4) + 256 - 256 * (c.val % 2) + (16 * a.val + b.val)) :
    packed m c (ix3 a b n) = half A B (zc c) q n := by
  unfold packed
  by_cases h : n.val < 1024
  · rw [dif_pos (show ((ix3 a b n : S8x16x2048.Idx) 2).val < 1024 from h)]
    exact packHalf_at hag c 0 a b ⟨n.val, h⟩ q n hq (by simp)
  · rw [dif_neg (show ¬ ((ix3 a b n : S8x16x2048.Idx) 2).val < 1024 from h)]
    exact packHalf_at hag c 1 a b ⟨n.val - 1024, by omega⟩ q n hq (by simp; omega)

/-- What a device receives from its neighbour along the last axis, read at an index: the other half sum, for one of
    the rows of the device's own block of the result. -/
theorem zin_at (c : Dev nD) (a : Fin 4) (b : Fin 16) (n : Fin 2048) (q : Fin 512)
    (hq : q.val = 256 * (c.val % 2) + (64 * (2 * (c.val / 4) + (c.val / 2) % 2) + (16 * a.val + b.val))) :
    zin m c (ix3 a b n) = half A B (1 - zc c) q n := by
  rw [← zc_zp]
  refine packed_at hag (zp c) ⟨4 * ((c.val / 2) % 2) + a.val, four_lt c a⟩ b n q ?_
  have hc : c.val < 8 := c.isLt
  rw [hq, zp_div, zp_mod]
  simp only []
  omega

/-- A device's own product, read at an index: a half sum of the reference. -/
theorem ownProd_at (c : Dev nD) (r : Fin 256) (n : Fin 2048) (q : Fin 512) (hq : q.val = 256 * (c.val % 2) + r.val) :
    ownProd m c (ix2 r n) = half A B (zc c) q n := by
  unfold ownProd k0_pay3
  rw [shapeCast_self]
  refine (matmul_firsts _ _ rfl (xkeep m c) (yin m c) r n).trans ?_
  refine Finset.sum_congr rfl fun k _ => ?_
  rw [xkeep_at hag c k r q hq, hag.y c k n]

/-- A quarter of the result, read at an index: the reference's entry. -/
theorem quart_at (c : Dev nD) (j : Fin 4) (r : Fin 64) (n : Fin 2048) (q : Fin 512)
    (hq : q.val = 256 * (c.val % 2) + (64 * qnum c j + r.val)) :
    quart m c j (ix2 r n) = refVal A B (ix2 q n) := by
  have hc := qnum_lt c j
  rw [refVal_at A B (zc c)]
  unfold quart k0_pay4
  rw [shapeCast_self]
  show ownProd m c ((quartR c j).emb (ix2 r n)) + shapeCast S64x2048 (zin m (via c j)) shapeCasts_S4x16x2048_S64x2048 (ix2 r n) = _
  congr 1
  · rw [← ownProd_at hag c ⟨64 * qnum c j + r.val, by omega⟩ n q hq]
    refine congrArg (ownProd m c) (funext fun ax => Fin.ext ?_)
    rw [Rect.emb_apply]
    match ax with
    | ⟨0, _⟩ => simp [qoff_eq]
    | ⟨1, _⟩ => simp [qoff_eq]
  · refine (shapeCast_apply _ _ (ix2 r n) (ix3 (⟨r.val / 16, by omega⟩ : Fin 4) (⟨r.val % 16, by omega⟩ : Fin 16) n) ?_).trans ?_
    · rw [Shape.rowMajor_val_two, Shape.rowMajor_val_three]
      show (r.val / 16 * 16 + r.val % 16) * 2048 + n.val = r.val * 2048 + n.val
      omega
    rw [← zc_via c j]
    refine zin_at hag (via c j) _ _ n q ?_
    have hz : (via c j).val % 2 = c.val % 2 := congrArg Fin.val (zc_via c j)
    rw [qnum_via, hz, hq]
    simp only []
    omega

/-- A device's result is its block of the reference's. -/
theorem result_eq (c : Dev nD) (V : Vec Ideal S256x2048 .f32)
    (hV : ∀ j : Fin 4, (fun x => V ((quartR c j).emb x)) = quart m c j) :
    V = Layout.blockN ⟨2, ![256, 2048]⟩ ⟨2, ![512, 2048]⟩ (Layout.meshBlock [2, 2, 2] ![[2], []] c) (refVal A B) := by
  funext i
  have h0 := idx2_lt0 i
  have hz : c.val % 2 < 2 := Nat.mod_lt _ (by decide)
  obtain ⟨j, hj⟩ := qnum_surj c ⟨(i 0).val / 64, by omega⟩
  have hi : (quartR c j).emb (ix2 (⟨(i 0).val % 64, by omega⟩ : Fin 64) (i 1)) = i := funext fun ax => Fin.ext (by
    rw [Rect.emb_apply]
    match ax with
    | ⟨0, _⟩ => simp [qoff_eq, hj]; omega
    | ⟨1, _⟩ => simp [qoff_eq])
  have hv := congrFun (hV j) (ix2 (⟨(i 0).val % 64, by omega⟩ : Fin 64) (i 1))
  rw [hi] at hv
  rw [hv, quart_at hag c j _ (i 1) ⟨256 * (c.val % 2) + (i 0).val, by omega⟩ (by simp [hj]; omega)]
  rw [Layout.blockN_apply]
  refine congrArg (refVal A B) (funext fun ax => Fin.ext ?_)
  rw [Layout.TilesN.idx_val]
  have hl := meshLin_zc c
  match ax with
  | ⟨0, _⟩ =>
    show 256 * (c.val % 2) + (i 0).val = Layout.meshLin [2, 2, 2] c.val [2] * 256 + (i 0).val
    rw [hl]; simp only [zc]; omega
  | ⟨1, _⟩ =>
    show (i 1).val = 0 * 2048 + (i 1).val
    omega

end Entries

/-- The blocks the claim hands the devices are the halves of the rows. -/
theorem agree_of_blocks (m : (ℓ : Loc nD τ sig) → Buf (Elt Ideal) ℓ)
    (A : FVec Ideal ⟨2, ![1024, 512]⟩ .f32) (B : FVec Ideal ⟨2, ![1024, 2048]⟩ .f32)
    (h : ∀ c : Dev nD,
      m ((c : Thread nD τ).loc main_arg0)
        = Layout.blockN ⟨2, ![512, 512]⟩ ⟨2, ![1024, 512]⟩ (Layout.meshBlock [2, 2, 2] ![[2], []] c) A
      ∧ m ((c : Thread nD τ).loc main_arg1)
        = Layout.blockN ⟨2, ![512, 2048]⟩ ⟨2, ![1024, 2048]⟩ (Layout.meshBlock [2, 2, 2] ![[2], []] c) B) :
    Agree m A B where
  x c k r := by
    refine (congrFun (h c).1 (ix2 k r)).trans ?_
    rw [Layout.blockN_apply]
    refine congrArg A (funext fun ax => Fin.ext ?_)
    rw [Layout.TilesN.idx_val]
    have hl := meshLin_zc c
    match ax with
    | ⟨0, _⟩ =>
      show Layout.meshLin [2, 2, 2] c.val [2] * 512 + k.val = (zc c).val * 512 + k.val
      rw [hl]
    | ⟨1, _⟩ =>
      show 0 * 512 + r.val = r.val
      omega
  y c k n := by
    refine (congrFun (h c).2 (ix2 k n)).trans ?_
    rw [Layout.blockN_apply]
    refine congrArg B (funext fun ax => Fin.ext ?_)
    rw [Layout.TilesN.idx_val]
    have hl := meshLin_zc c
    match ax with
    | ⟨0, _⟩ =>
      show Layout.meshLin [2, 2, 2] c.val [2] * 512 + k.val = (zc c).val * 512 + k.val
      rw [hl]
    | ⟨1, _⟩ =>
      show 0 * 2048 + n.val = n.val
      omega

end Cert.KernelIdeal.Scatter

namespace Cert.Value

open Idealize.ShloMosaic Idealize.ShloMosaic.TcCoe Idealize.SL.Sem

/-- At the ideal values, on blocks of the reference's arguments, every device of the kernel ends with its block of the
    reference's result, and both programs leave their arguments as they were. -/
theorem algebraic : Cert.algebraic_KernelIdeal_ReferenceIdeal (hKernelIdeal := Cert.KernelIdeal.Gen.facts)
    (hReferenceIdeal := Cert.ReferenceIdeal.Gen.facts) := fun m g m' g' _ hagree =>
  have hag := Cert.KernelIdeal.Scatter.agree_of_blocks m _ _ hagree
  ⟨_, (θ_run Cert.KernelIdeal.defs _ _).mono (fun r h c => by
      obtain ⟨hx, hy, V, hV, hq⟩ := h.1 c
      exact ⟨hV.trans (Cert.KernelIdeal.Scatter.result_eq hag c V hq), hx, hy⟩)
      (Cert.KernelIdeal.Scatter.run_main (F := Ideal) m g),
    (θ_run Cert.ReferenceIdeal.defs _ _).mono (fun r h => h 0) (Cert.ReferenceIdeal.Value.run (F := Ideal) m' g')⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.frame_kernel, Cert.Frames.frame_kernelIdeal, Cert.Frames.frame_reference, trivial, Cert.Value.algebraic⟩

end Cert.Proof

end
